-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_k" .f32 0x3AA00A01#32 ((1 / 819 : ℝ) : EReal)

def holds_KernelIdeal_within_resolution [hKernelIdeal : Cert.KernelIdeal.Facts] [hPost_within_resolution : Cert.Post_within_resolution.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_within_resolution.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v2))) = (fun _ => 1#1))

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts) (hPost_within_resolution : Cert.Post_within_resolution.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ holds_KernelIdeal_within_resolution (hKernelIdeal := hKernelIdeal) (hPost_within_resolution := hPost_within_resolution)
    ∧ algebraic_KernelIdeal_ReferenceIdeal_pre_separated (hKernelIdeal := hKernelIdeal) (hReferenceIdeal := hReferenceIdeal) (hPre_separated := hPre_separated)
-- ==== Post_within_resolution.lean ====
abbrev S32x128x8192 : Shape := ⟨3, ![32, 128, 8192]⟩
abbrev S128 : Shape := ⟨1, ![128]⟩
abbrev S1 : Shape := ⟨1, ![1]⟩
abbrev S32x1 : Shape := ⟨2, ![32, 1]⟩
abbrev S32x8192 : Shape := ⟨2, ![32, 8192]⟩
abbrev S1x1 : Shape := ⟨2, ![1, 1]⟩
abbrev S32x819 : Shape := ⟨2, ![32, 819]⟩
abbrev S_ : Shape := ⟨0, ![]⟩
abbrev S32 : Shape := ⟨1, ![32]⟩

class Facts : Prop where
  bcast_S1_S1x1_1 : S1.BroadcastsInDim S1x1 (![1] : Fin 1 → Fin S1x1.rank)
  bcast_S1x1_S32x8192_0_1 : S1x1.BroadcastsInDim S32x8192 (![0, 1] : Fin 2 → Fin S32x8192.rank)
  sliceFits_S32x8192_S32x819 : S32x8192.Slices (fun _ => 0) S32x819
  reducesTo_S32x819_S32_d1 : S32x819.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  slices_S32x819_S32x1_0_0 : S32x819.Slices ![0, 0] S32x1
  dot_S32x128x8192_S128_S32x8192_1_0_02_n_n_n_wf : DotDims.WF S32x128x8192 S128 S32x8192 [1] [0] [0, 2] [] [] []

variable [Facts]

def dot_S32x128x8192_S128_S32x8192_1_0_02_n_n_n : DotDims S32x128x8192 S128 S32x8192 where
  lhsContracting := [1]
  rhsContracting := [0]
  lhsNonContracting := [0, 2]
  rhsNonContracting := []
  lhsBatch := []
  rhsBatch := []
  wf := dot_S32x128x8192_S128_S32x8192_1_0_02_n_n_n_wf
def fn {F : FTy → Type} [FloatOps F] (main_arg0 : FVec F S32x128x8192 .f32) (main_arg1 : FVec F S128 .f32) (main_arg2 : FVec F S1 .f32) (main_arg3 : FVec F S32x1 .f32) : IVec S32x1 1 :=
  let main_v0 : FVec F S32x8192 .f32 := (fun l r => Host.dotGeneral dot_S32x128x8192_S128_S32x8192_1_0_02_n_n_n none l r) main_arg0 main_arg1
  let main_v1 : FVec F S1x1 .f32 := broadcastInDim S1x1 ![1] bcast_S1_S1x1_1 main_arg2
  let main_v2 : FVec F S32x8192 .f32 := broadcastInDim S32x8192 ![0, 1] bcast_S1x1_S32x8192_0_1 main_v1
  let main_v3 : FVec F S32x8192 .f32 := addf main_v0 main_v2
  let main_v4 : FVec F S32x8192 .f32 := Host.absf main_v3
  let main_values : FVec F S32x819 .f32 := (fun x => (Host.topK S32x819 1 (FloatOps.cmpfTotal .gt) x sliceFits_S32x8192_S32x819).1) main_v4
  let main_indices : IVec S32x819 32 := (fun x => (Host.topK S32x819 1 (FloatOps.cmpfTotal .gt) x sliceFits_S32x8192_S32x819).2) main_v4
  let main_cst : FVec F S_ .f32 := constant S_ .f32 0x00000000#32
  let main_v5 : FVec F S32 .f32 := (fun x v => Host.reduceAdd x v reducesTo_S32x819_S32_d1 h_S_) main_values main_cst
  let main_v6 : FVec F S32x1 .f32 := broadcastInDim S32x1 ![0] bcast_S32_S32x1_0 main_v5
  let main_cst_0 : FVec F S_ .f32 := constant S_ .f32 0x444CC000#32
  let main_v7 : FVec F S32x1 .f32 := broadcastInDim S32x1 ![] bcast_S_S32x1 main_cst_0
  let main_v8 : FVec F S32x1 .f32 := Host.divf main_v6 main_v7
  let main_v9 : IVec S32x1 1 := cmpf .oge main_arg3 main_v8
  let main_v10 : FVec F S32x1 .f32 := (extractStridedSlice S32x1 ![0, 0] · slices_S32x819_S32x1_0_0) main_values
  let main_cst_1 : FVec F S_ .f32 := constant S_ .f32 0x32800000#32
  let main_v11 : FVec F S32x1 .f32 := broadcastInDim S32x1 ![] bcast_S_S32x1 main_cst_1
  let main_v12 : FVec F S32x1 .f32 := mulf main_v10 main_v11
  let main_v13 : FVec F S32x1 .f32 := addf main_v8 main_v12
  let main_v14 : IVec S32x1 1 := cmpf .oge main_v13 main_arg3
  let main_v15 : IVec S32x1 1 := andi main_v9 main_v14
  main_v15
-- ==== Pre_separated.lean ====
abbrev S32x128x8192 : Shape := ⟨3, ![32, 128, 8192]⟩
abbrev S128 : Shape := ⟨1, ![128]⟩
abbrev S1 : Shape := ⟨1, ![1]⟩
abbrev S32x8192 : Shape := ⟨2, ![32, 8192]⟩
abbrev S1x1 : Shape := ⟨2, ![1, 1]⟩
abbrev S32x820 : Shape := ⟨2, ![32, 820]⟩
abbrev S32x1 : Shape := ⟨2, ![32, 1]⟩
abbrev S32 : Shape := ⟨1, ![32]⟩
abbrev S_ : Shape := ⟨0, ![]⟩

class Facts : Prop where
  bcast_S1_S1x1_1 : S1.BroadcastsInDim S1x1 (![1] : Fin 1 → Fin S1x1.rank)
  bcast_S1x1_S32x8192_0_1 : S1x1.BroadcastsInDim S32x8192 (![0, 1] : Fin 2 → Fin S32x8192.rank)
  sliceFits_S32x8192_S32x820 : S32x8192.Slices (fun _ => 0) S32x820
  slices_S32x820_S32x1_0_818 : S32x820.Slices ![0, 818] S32x1
  shapeCasts_S32x1_S32 : S32x1.ShapeCasts S32
  slices_S32x820_S32x1_0_819 : S32x820.Slices ![0, 819] S32x1
  slices_S32x820_S32x1_0_0 : S32x820.Slices ![0, 0] S32x1
  bcast_S_S32 : S_.BroadcastsInDim S32 (![] : Fin 0 → Fin S32.rank)
  reducesTo_S32_S_d0 : S32.ReducesTo [0] S_
  h_S_ : 0 < S_.numel
  dot_S32x128x8192_S128_S32x8192_1_0_02_n_n_n_wf : DotDims.WF S32x128x8192 S128 S32x8192 [1] [0] [0, 2] [] [] []

variable [Facts]

def dot_S32x128x8192_S128_S32x8192_1_0_02_n_n_n : DotDims S32x128x8192 S128 S32x8192 where
  lhsContracting := [1]
  rhsContracting := [0]
  lhsNonContracting := [0, 2]
  rhsNonContracting := []
  lhsBatch := []
  rhsBatch := []
  wf := dot_S32x128x8192_S128_S32x8192_1_0_02_n_n_n_wf
def fn {F : FTy → Type} [FloatOps F] (main_arg0 : FVec F S32x128x8192 .f32) (main_arg1 : FVec F S128 .f32) (main_arg2 : FVec F S1 .f32) : IVec S_ 1 :=
  let main_v0 : FVec F S32x8192 .f32 := (fun l r => Host.dotGeneral dot_S32x128x8192_S128_S32x8192_1_0_02_n_n_n none l r) main_arg0 main_arg1
  let main_v1 : FVec F S1x1 .f32 := broadcastInDim S1x1 ![1] bcast_S1_S1x1_1 main_arg2
  let main_v2 : FVec F S32x8192 .f32 := broadcastInDim S32x8192 ![0, 1] bcast_S1x1_S32x8192_0_1 main_v1
  let main_v3 : FVec F S32x8192 .f32 := addf main_v0 main_v2
  let main_v4 : FVec F S32x8192 .f32 := Host.absf main_v3
  let main_values : FVec F S32x820 .f32 := (fun x => (Host.topK S32x820 1 (FloatOps.cmpfTotal .gt) x sliceFits_S32x8192_S32x820).1) main_v4
  let main_indices : IVec S32x820 32 := (fun x => (Host.topK S32x820 1 (FloatOps.cmpfTotal .gt) x sliceFits_S32x8192_S32x820).2) main_v4
  let main_v5 : FVec F S32x1 .f32 := (extractStridedSlice S32x1 ![0, 818] · slices_S32x820_S32x1_0_818) main_values
  let main_v6 : FVec F S32 .f32 := shapeCast S32 main_v5 shapeCasts_S32x1_S32
  let main_v7 : FVec F S32x1 .f32 := (extractStridedSlice S32x1 ![0, 819] · slices_S32x820_S32x1_0_819) main_values
  let main_v8 : FVec F S32 .f32 := shapeCast S32 main_v7 shapeCasts_S32x1_S32
  let main_v9 : FVec F S32x1 .f32 := (extractStridedSlice S32x1 ![0, 0] · slices_S32x820_S32x1_0_0) main_values
  let main_v10 : FVec F S32 .f32 := shapeCast S32 main_v9 shapeCasts_S32x1_S32
  let main_cst : FVec F S_ .f32 := constant S_ .f32 0x30800000#32
  let main_v11 : FVec F S32 .f32 := broadcastInDim S32 ![] bcast_S_S32 main_cst
  let main_v12 : FVec F S32 .f32 := mulf main_v10 main_v11
  let main_v13 : FVec F S32 .f32 := addf main_v8 main_v12
  let main_v14 : IVec S32 1 := cmpf .oge main_v6 main_v13
  let main_c : IVec S_ 1 := constantI S_ 1 1#1
  let main_v15 : IVec S_ 1 := (fun x v => Host.reduce IntOp.andi x v reducesTo_S32_S_d0 h_S_) main_v14 main_c
  main_v15
-- ==== Kernel.lean ====
abbrev S32x128x8192 : Shape := ⟨3, ![32, 128, 8192]⟩
abbrev S128 : Shape := ⟨1, ![128]⟩
abbrev S1 : Shape := ⟨1, ![1]⟩
abbrev S1x128 : Shape := ⟨2, ![1, 128]⟩
abbrev S1x1 : Shape := ⟨2, ![1, 1]⟩
abbrev S32x1 : Shape := ⟨2, ![32, 1]⟩
abbrev S1x128x8192 : Shape := ⟨3, ![1, 128, 8192]⟩
abbrev S32x8192 : Shape := ⟨2, ![32, 8192]⟩
abbrev S128x8192 : Shape := ⟨2, ![128, 8192]⟩
abbrev S1x8192 : Shape := ⟨2, ![1, 8192]⟩
abbrev S32 : Shape := ⟨1, ![32]⟩

abbrev nBuf : Space → Nat
  | .hbm => 6
  | .vmem => 5
  | .smem => 1
  | _ => 0

abbrev bufTy : (tb : Table) → Fin (tcTables nBuf tb) → BufTy
  | .hbm, ⟨0, _⟩ => ⟨S32x128x8192, .f32⟩
  | .hbm, ⟨1, _⟩ => ⟨S128, .f32⟩
  | .hbm, ⟨2, _⟩ => ⟨S1, .f32⟩
  | .hbm, ⟨3, _⟩ => ⟨S1x128, .f32⟩
  | .hbm, ⟨4, _⟩ => ⟨S1x1, .f32⟩
  | .hbm, ⟨5, _⟩ => ⟨S32x1, .f32⟩
  | .local _ .vmem, ⟨0, _⟩ => ⟨S1x128x8192, .f32⟩
  | .local _ .vmem, ⟨1, _⟩ => ⟨S1x128x8192, .f32⟩
  | .local _ .vmem, ⟨2, _⟩ => ⟨S1x128, .f32⟩
  | .local _ .vmem, ⟨3, _⟩ => ⟨S32x1, .f32⟩
  | .local _ .vmem, ⟨4, _⟩ => ⟨S32x8192, .f32⟩
  | .local _ .smem, ⟨0, _⟩ => ⟨S1x1, .f32⟩
  | _, _ => ⟨S32x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v9 : Index := Scalar.indexCast arg0
  let c0_6 : Index := 0#32
  ![v9.toNat, 0]
def k0_cond1 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32 : BitVec 32 := 0#32
  let v15 : BitVec 1 := Scalar.cmpi .ne v14 c0_i32
  v15

@[reducible] def k0_t1_loop : Scf.Loop 32 :=
  let c0_i32_11 : BitVec 32 := 0#32
  let c30_i32 : BitVec 32 := 30#32
  let v20 : BitVec 32 := Scalar.addi c0_i32_11 c30_i32
  let c1_i32 : BitVec 32 := 1#32
  ⟨c0_i32_11, v20, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_k" => some ((1 / 819 : ℝ) : EReal)
  | _ => none
-- ==== ReferenceIdeal.lean ====
abbrev S32x128x8192 : Shape := ⟨3, ![32, 128, 8192]⟩
abbrev S128 : Shape := ⟨1, ![128]⟩
abbrev S1 : Shape := ⟨1, ![1]⟩
abbrev S32x8192 : Shape := ⟨2, ![32, 8192]⟩
abbrev S1x1 : Shape := ⟨2, ![1, 1]⟩
abbrev S32x819 : Shape := ⟨2, ![32, 819]⟩
abbrev S_ : Shape := ⟨0, ![]⟩
abbrev S32 : Shape := ⟨1, ![32]⟩
abbrev S32x1 : Shape := ⟨2, ![32, 1]⟩

abbrev nBuf : Space → Nat
  | .hbm => 16
  | .vmem => 0
  | .smem => 0
  | _ => 0

abbrev bufTy : (tb : Table) → Fin (tcTables nBuf tb) → BufTy
  | .hbm, ⟨0, _⟩ => ⟨S32x128x8192, .f32⟩
  | .hbm, ⟨1, _⟩ => ⟨S128, .f32⟩
  | .hbm, ⟨2, _⟩ => ⟨S1, .f32⟩
  | .hbm, ⟨3, _⟩ => ⟨S32x8192, .f32⟩
  | .hbm, ⟨4, _⟩ => ⟨S1x1, .f32⟩
  | .hbm, ⟨5, _⟩ => ⟨S32x8192, .f32⟩
  | .hbm, ⟨6, _⟩ => ⟨S32x8192, .f32⟩
  | .hbm, ⟨7, _⟩ => ⟨S32x8192, .f32⟩
  | .hbm, ⟨8, _⟩ => ⟨S32x819, .f32⟩
  | .hbm, ⟨9, _⟩ => ⟨S32x819, .i32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | _, _ => ⟨S32x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.VecWindow
public import Idealize.ShloMosaic.Lib.ValueIdxCore
public import Idealize.ShloMosaic.Lib.WordCmp

@[expose] public section

set_option maxRecDepth 16384

noncomputable section

/-! # One grid point of the idealized kernel -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen

variable {F : FTy → Type} [FloatOps F] [Named F]

local notation "𝕄" => MT nD τ sig Unit (Elt F) ℕ (UR sig nD τ) ℕ

/-- The scratch after the store of grid point `i`: row `i` replaced by the scores of the point's block of `x`. -/
def stored (i : grid0.Coords) (x0 : Vec F S1x128x8192 .f32) (x1 : Vec F S1x128 .f32) (x2 : Vec F S1x1 .f32)
    (d : Vec F S32x8192 .f32) : Vec F S32x8192 .f32 :=
  VecWindow.put d ![(i 0).val, 0] S1x8192.size (k0_pay1 x0 x1 (x2 (ix2 0 0)))

/-- The two searched bounds after the thirty halvings, over scratch contents `s`: from zero and the row maxima. -/
def bounds (s : Vec F S32x8192 .f32) : FVec F S32x1 .f32 × FVec F S32x1 .f32 :=
  Scf.fold (n := k0_t1_loop.trips) (fun _ lh => (k0_pay6 s lh.1 lh.2, k0_pay7 s lh.1 lh.2)) (k0_pay3, k0_pay2 s)

/-- The output block stored at the last point, over scratch contents `s`. -/
def final (s : Vec F S32x8192 .f32) : FVec F S32x1 .f32 := k0_pay8 s (bounds s).1

/-- `final` of contents that are known equal to others. -/
theorem final_of_eq {s' s : Vec F S32x8192 .f32} (h : s' = s) :
    k0_pay8 s' (Scf.fold (n := k0_t1_loop.trips) (fun _ lh => (k0_pay6 s' lh.1 lh.2, k0_pay7 s' lh.1 lh.2)) (k0_pay3, k0_pay2 s')).1
      = final s := by
  subst h; rfl

/-- The store of point `i` starts at row `i`, column zero. -/
theorem off_eq (i : grid0.Coords) : k0_off1 i = ![(i 0).val, 0] := by
  have h : (i 0).val < 32 := (i 0).isLt
  simp only [k0_off1]
  rw [show (Scalar.indexCast (BitVec.ofNat 32 (i 0).val)).toNat = (i 0).val by
    simp [Scalar.indexCast]; omega]

/-- The one index of a one-by-one array. -/
theorem first_eq {h : 0 < S1x1.numel} : Shape.Idx.first h = (ix2 0 0 : S1x1.Idx) := by
  rw [eq_ix2 (Shape.Idx.first h)]; congr 1 <;> exact Subsingleton.elim _ _

/-- The scratch memref, one row of payload `w` stored over contents `d`, reads as `stored` says. -/
theorem read_stored (i : grid0.Coords) (arg5 : Memref sig .tc .vmem S32x8192 .f32) (fs : arg5.view.ty.Contents (Elt F))
    (d : Vec F S32x8192 .f32) (hfs : arg5.view.read (Elt F) fs = d) {x0 : Vec F S1x128x8192 .f32} {x1 : Vec F S1x128 .f32}
    {x2 : Vec F S1x1 .f32} {w : FVec F S1x8192 .f32} (hw : w = k0_pay1 x0 x1 (x2 (ix2 0 0))) :
    arg5.view.read (Elt F) (arg5.view.writes (Elt F) fs
      [⟨Rect.unit (s := S32x8192) (k0_off1 i) S1x8192.size (k0_off1_inb i), w⟩]) = stored i x0 x1 x2 d := by
  rw [View.read_writes_cons_put _ _ _ _ _ (off_eq i), View.writes_nil, hfs, hw]; rfl

set_option maxHeartbeats 1000000 in
/-- A grid point other than the last writes its row of scores into the scratch buffer and leaves the rest of the buffer as it was. -/
theorem run_store (c : Dev nD) (i : grid0.Coords) (arg1 : Memref sig .tc .vmem S1x128x8192 .f32) (harg1 : arg1.IsWhole) (arg2 : Memref sig .tc .vmem S1x128 .f32) (harg2 : arg2.IsWhole) (arg3 : Memref sig .tc .smem S1x1 .f32) (harg3 : arg3.IsWhole) (arg4 : Memref sig .tc .vmem S32x1 .f32) (harg4 : arg4.IsWhole) (arg5 : Memref sig .tc .vmem S32x8192 .f32) (harg5 : arg5.IsWhole)
    (hc0 : ¬ k0_cond1 i = 1#1)
    (x0 : Vec F S1x128x8192 .f32) (x1 : Vec F S1x128 .f32) (x2 : Vec F S1x1 .f32) (d : Vec F S32x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare d
            ∗ (iprop(owns (c : Thread nD τ) arg1 fullShare x0 ∗ owns (c : Thread nD τ) arg2 fullShare x1 ∗ owns (c : Thread nD τ) arg3 fullShare x2 ∗ owns (c : Thread nD τ) arg5 fullShare (stored i x0 x1 x2 d)) -∗ K ⟨⟩))
          ⊢ wp frame (wpE (defs₀ (F := F)) Variants.none c none) E (cc0__tc_kernel i arg1 harg1 arg2 harg2 arg3 harg3 arg4 harg4 arg5 harg5) K := by
    intro E K
    simp only [cc0__tc_kernel_eq_skeleton]; unfold cc0__tc_kernel_skel
    unfold owns
    iintro ⟨⟨%f0, %hf0, H0⟩, ⟨%f1, %hf1, H1⟩, ⟨%f2, %hf2, H2⟩, ⟨%fs, %hfs, HS⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    iexists _; isplitr; swap; · iexact HS
    ipureintro
    sl_unfold_words
    exact read_stored i arg5 _ d hfs (by rw [View.readAt_full, View.readAt_full, View.readAt_full, hf0, hf1, hf2, first_eq])

set_option maxHeartbeats 1000000 in
/-- The last grid point writes its row of scores, then stores the result computed from all the rows. -/
theorem run_last (c : Dev nD) (i : grid0.Coords) (arg1 : Memref sig .tc .vmem S1x128x8192 .f32) (harg1 : arg1.IsWhole) (arg2 : Memref sig .tc .vmem S1x128 .f32) (harg2 : arg2.IsWhole) (arg3 : Memref sig .tc .smem S1x1 .f32) (harg3 : arg3.IsWhole) (arg4 : Memref sig .tc .vmem S32x1 .f32) (harg4 : arg4.IsWhole) (arg5 : Memref sig .tc .vmem S32x8192 .f32) (harg5 : arg5.IsWhole)
    (hc0 : k0_cond1 i = 1#1)
    (x0 : Vec F S1x128x8192 .f32) (x1 : Vec F S1x128 .f32) (x2 : Vec F S1x1 .f32) (d : Vec F S32x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ o, owns (c : Thread nD τ) arg4 fullShare o) ∗ owns (c : Thread nD τ) arg5 fullShare d
            ∗ (iprop(owns (c : Thread nD τ) arg1 fullShare x0 ∗ owns (c : Thread nD τ) arg2 fullShare x1 ∗ owns (c : Thread nD τ) arg3 fullShare x2 ∗ owns (c : Thread nD τ) arg4 fullShare (final (stored i x0 x1 x2 d)) ∗ owns (c : Thread nD τ) arg5 fullShare (stored i x0 x1 x2 d)) -∗ K ⟨⟩))
          ⊢ wp frame (wpE (defs₀ (F := F)) Variants.none c none) E (cc0__tc_kernel i arg1 harg1 arg2 harg2 arg3 harg3 arg4 harg4 arg5 harg5) K := by
    intro E K
    simp only [cc0__tc_kernel_eq_skeleton]; unfold cc0__tc_kernel_skel
    unfold owns
    iintro ⟨⟨%f0, %hf0, H0⟩, ⟨%f1, %hf1, H1⟩, ⟨%f2, %hf2, H2⟩, ⟨%o, %f3, -, H3⟩, ⟨%fs, %hfs, HS⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      sl_unfold_words
      rw [View.read_writes_full]
      exact final_of_eq ((View.readAt_full _ _ _).trans
        (read_stored i arg5 _ d hfs (by rw [View.readAt_full, View.readAt_full, View.readAt_full, hf0, hf1, hf2, first_eq])))
    iexists _; isplitr; swap; · iexact HS
    ipureintro
    sl_unfold_words
    exact read_stored i arg5 _ d hfs (by rw [View.readAt_full, View.readAt_full, View.readAt_full, hf0, hf1, hf2, first_eq])

end Cert.KernelIdeal.Body
end
-- ==== Proof.Run.lean ====
module

public import proofs.«01_k».proof.Proof.Body

@[expose] public section

set_option maxRecDepth 16384

noncomputable section

/-! # The whole grid of the idealized kernel -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point that scores row `r` of the batch. -/
def pt (r : Fin 32) : Fin cfg0.N := ⟨r.val, by rw [show cfg0.N = 32 from N_0]; exact r.isLt⟩

/-- The one coordinate of grid point `t` is `t`. -/
theorem coord_eq (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  omega

/-- The finishing branch is taken at the last point and at no other. -/
theorem last_iff (t : Fin cfg0.N) : k0_cond1 (grid0.coords t) = 1#1 ↔ t.val = 31 := by
  have ht : t.val < 32 := Nat.lt_of_lt_of_eq t.isLt N_0
  simp only [k0_cond1, coord_eq t]
  word_cmp

/-- The scratch once every point has stored its row: row `r` is the score row of batch `r`'s block. -/
def scores (c : Dev nD) : Vec F S32x8192 .f32 := fun j =>
  k0_pay1 (iblk m c 0 (pt (j 0))) (iblk m c 1 (pt (j 0))) (iblk m c 2 (pt (j 0)) (ix2 0 0)) (ix2 0 (j 1))

/-- The first `n` rows of scratch contents `d` hold their scores. -/
def Filled (c : Dev nD) (n : ℕ) (d : Vec F S32x8192 .f32) : Prop :=
  ∀ j : S32x8192.Idx, (j 0).val < n → d j = scores m c j

/-- The store of point `t` extends the filled rows by one. -/
theorem filled_stored (c : Dev nD) (t : Fin cfg0.N) {d : Vec F S32x8192 .f32} (h : Filled m c t.val d) :
    Filled m c (t.val + 1) (stored (grid0.coords t) (iblk m c 0 t) (iblk m c 1 t) (iblk m c 2 t) d) := by
  intro j hj
  have hc := coord_eq t
  unfold stored VecWindow.put
  by_cases e : (j 0).val = t.val
  · have hp : pt (j 0) = t := Fin.ext e
    have hin : ∀ a : Fin S32x8192.rank, (![(grid0.coords t 0).val, 0] : Fin 2 → ℕ) a ≤ (j a).val
        ∧ (j a).val < (![(grid0.coords t 0).val, 0] : Fin 2 → ℕ) a + S1x8192.size a := by
      have h1 : (j 1).val < 8192 := (j 1).isLt
      refine Fin.forall_fin_two.mpr ⟨⟨?_, ?_⟩, ⟨?_, ?_⟩⟩
      · show (grid0.coords t 0).val ≤ (j 0).val; omega
      · show (j 0).val < (grid0.coords t 0).val + 1; omega
      · show 0 ≤ (j 1).val; omega
      · show (j 1).val < 0 + 8192; omega
    rw [dif_pos hin]
    unfold scores
    rw [hp]
    refine congrArg (k0_pay1 (iblk m c 0 t) (iblk m c 1 t) (iblk m c 2 t (ix2 0 0))) ?_
    refine funext (Fin.forall_fin_two.mpr ⟨Subsingleton.elim (α := Fin 1) _ _, Fin.ext ?_⟩)
    rw [Rect.unitLocal_val]
    rfl
  · rw [dif_neg fun hin => e (by
      have h0 := hin 0
      have h0' : (grid0.coords t 0).val ≤ (j 0).val ∧ (j 0).val < (grid0.coords t 0).val + 1 := h0
      omega)]
    exact h j (by omega)

/-- All thirty-two rows filled: the contents are the scores. -/
theorem filled_all (c : Dev nD) {d : Vec F S32x8192 .f32} (h : Filled m c 32 d) : d = scores m c :=
  funext fun j => h j (j 0).isLt

/-- The pipeline's proof data on core `c`: the inputs' buffers keep their blocks, the output's holds `final` of the
    scores once the last point has run, and before point `t` the scratch has its first `t` rows filled. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => final (scores m c)
  Φ t := iprop((∃ d, ⌜Filled m c t.val d⌝ ∗ owns (c : Thread nD τ) (Memref.whole cc0_scratch0) fullShare d) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = final (scores m c) := by dsimp only [dats]

/-- The invariant at a point is the class's with the scratch's filled rows remembered. -/
theorem Phi_eq (c : Dev nD) (t : Fin (cfg0.N + 1)) : (dats m 0 c).Φ t
    = iprop((∃ d, ⌜Filled m c t.val d⌝ ∗ owns (c : Thread nD τ) (Memref.whole cc0_scratch0) fullShare d) ∗ (∃ r, prngReg c r)) := by
  dsimp only [dats]

theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The output window is written back at the last point and at no other. -/
theorem flush_iff (t : Fin cfg0.N) : (cfg0.win 3).flush t = true ↔ t.val = 31 := by
  have ht : t.val < 32 := Nat.lt_of_lt_of_eq t.isLt N_0
  rw [flush0_3 t]; omega

/-- The body at point `t`, given the invariant and the four windows' buffers, leaves what the proof data say. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t)) := by
  have e0 : (dats m 0 c).leavesExact 0 t = owns (c : Thread nD τ) (st0_0 t) fullShare (iblk m c 0 t) := by
    unfold Dat.leavesExact; rw [show cfg0.idle 0 (grid0.coords t) = false from rfl, after_0]
  have e1 : (dats m 0 c).leavesExact 1 t = owns (c : Thread nD τ) (st0_1 t) fullShare (iblk m c 1 t) := by
    unfold Dat.leavesExact; rw [show cfg0.idle 1 (grid0.coords t) = false from rfl, after_1]
  have e2 : (dats m 0 c).leavesExact 2 t = owns (c : Thread nD τ) (st0_2 t) fullShare (iblk m c 2 t) := by
    unfold Dat.leavesExact; rw [show cfg0.idle 2 (grid0.coords t) = false from rfl, after_2]
  have b0 : ∀ d, (dats m 0 c).before 0 t d = iblk m c 0 t := before0_0_of m (dats m 0 c) (A_eq m c 0) (after_0 m c) t
  have b1 : ∀ d, (dats m 0 c).before 1 t d = iblk m c 1 t := before0_1_of m (dats m 0 c) (A_eq m c 1) (after_1 m c) t
  have b2 : ∀ d, (dats m 0 c).before 2 t d = iblk m c 2 t := before0_2_of m (dats m 0 c) (A_eq m c 2) (after_2 m c) t
  unfold bodyAt0
  simp only [b0, b1, b2, e0, e1, e2]
  rw [Phi_eq, Phi_eq, show (dats m 0 c).owesAt () t.succ = (dats m 0 c).owesAt () t.castSucc from rfl]
  by_cases hl : k0_cond1 (grid0.coords t) = 1#1
  · have e3 : (dats m 0 c).leavesExact 3 t = owns (c : Thread nD τ) (st0_3 t) fullShare (final (scores m c)) := by
      unfold Dat.leavesExact
      rw [show cfg0.idle 3 (grid0.coords t) = false from by
        show (!(k0_cond1 (grid0.coords t) == 1#1)) = false
        rw [hl]; rfl, after_3]
    rw [e3]
    iintro ⟨⟨⟨%d, %hd, HS⟩, Hg⟩, Ho, ⟨%d0, H0⟩, ⟨%d1, H1⟩, ⟨%d2, H2⟩, ⟨%d3, H3⟩⟩
    iapply (run_last c (grid0.coords t) _ _ _ _ _ _ _ _ _ _ hl (iblk m c 0 t) (iblk m c 1 t) (iblk m c 2 t) d Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists _; isplitr; swap; · iexact HS
        ipureintro
        exact filled_stored m c t hd
      iexact Hg
    isplitl [Ho]; · iexact Ho
    isplitl [H0]; · iexact H0
    isplitl [H1]; · iexact H1
    isplitl [H2]; · iexact H2
    rw [← filled_all m c (by have := filled_stored m c t hd; rwa [(last_iff t).mp hl] at this)]
    iexact H3
  · have e3 : (dats m 0 c).leavesExact 3 t = iprop(∃ d, owns (c : Thread nD τ) (st0_3 t) fullShare ((dats m 0 c).before 3 t d)) :=
      Dat.leavesExact_idle _ 3 t
        (by show (!(k0_cond1 (grid0.coords t) == 1#1)) = true
            rw [Bool.not_eq_true']; exact beq_eq_false_iff_ne.mpr hl)
        (Bool.eq_false_iff.mpr fun h => hl ((last_iff t).mpr ((flush_iff t).mp h)))
    rw [e3]
    iintro ⟨⟨⟨%d, %hd, HS⟩, Hg⟩, Ho, ⟨%d0, H0⟩, ⟨%d1, H1⟩, ⟨%d2, H2⟩, H3⟩
    iapply (run_store c (grid0.coords t) _ _ _ _ _ _ _ _ _ _ hl (iblk m c 0 t) (iblk m c 1 t) (iblk m c 2 t) d Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro
        exact filled_stored m c t hd
      iexact Hg
    isplitl [Ho]; · iexact Ho
    isplitl [H0]; · iexact H0
    isplitl [H1]; · iexact H1
    isplitl [H2]; · iexact H2
    iexact H3

/-- The body table's row at point `t` is the printed body on that point's buffers. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- @main runs to the end with the arrays at what the proof data say, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [Phi_eq, PhiA_eq]
      iintro ⟨⟨%d, HS⟩, Hg⟩
      isplitl [HS]
      · iexists d; isplitr; swap; · iexact HS
        ipureintro
        intro j hj
        exact absurd hj (Nat.not_lt_zero _)
      iexact Hg)
    (hout := fun c => by
      rw [Phi_eq, PhiA_eq]
      iintro ⟨⟨%d, -, HS⟩, Hg⟩
      isplitl [HS]
      · iexists d; iexact HS
      iexact Hg)

end Cert.KernelIdeal.Body
end
-- ==== Proof.Result.lean ====
module

public import proofs.«01_k».proof.Proof.Run
public import Idealize.ShloMosaic.Lib.Pipeline.Value
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen

variable {F : FTy → Type} [FloatOps F] [Named F]
variable (m : (ℓ : Loc nD τ sig) → Buf (Elt F) ℓ) (ρ : Dev nD → PrngReg)

/-- An index of the result is in the output's block at every point: the block is the whole array. -/
theorem mem_out (t : Fin cfg0.N) (i : S32x1.Idx) : i ∈ ((cfg0.win 3).blk t).view.set := by
  show i ∈ ((View.whole main_v2).slice (win0_3.rect t)).set
  rw [View.set_slice_whole, Rect.mem_set_unit]
  intro a
  have h0 : win0_3.index t a = 0 := by
    revert a; exact Fin.forall_fin_two.mpr ⟨rfl, rfl⟩
  have := (i a).isLt
  exact ⟨by show win0_3.index t a * S32x1.size a ≤ _; rw [h0]; omega,
    by show _ < win0_3.index t a * S32x1.size a + S32x1.size a; rw [h0]; omega⟩

/-- The result array after the run is the block stored at the last point. -/
theorem arr_out (c : Dev nD) : (dats m 0 c).arrAt 3 cfg0.N = final (scores m c) := by
  refine (dats m 0 c).arrAt_eq_of_cover 3 (final (scores m c)) (fun t ht => ?_) fun i => ?_
  · show (cfg0.win 3).cut (grid0.coords t) ((dats m 0 c).after 3 t) = _
    rw [after_3]
    have hz : (fun a => win0_3.index t a * main_v2.ty.shape.size a) = fun _ => 0 :=
      funext (Fin.forall_fin_two.mpr ⟨rfl, rfl⟩)
    exact (Memref.read_access_unit_zero (Elt F) main_v2 hz (fun a => by rw [congrFun hz a]; simp) (final (scores m c))).symm
  · exact ⟨pt 31, (flush_iff _).mpr rfl, mem_out _ i⟩

/-- @main runs to the end with its arguments unchanged and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- @main ends with its result at `final` of the scores and its arguments unchanged. -/
theorem result : θ_run defs (onTc (τ := τ) (main (F := F))) ⟨m, fun _ => 0, ρ⟩ (fun r => ∀ c : Dev nD,
      r.2.mem ((c.tc : Thread nD τ).loc main_v2) = final (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (arr_out m c), h.2.1 c⟩)
    (θ_run_and (run_main m ρ) (quiescent m ρ))

end Cert.KernelIdeal.Body
end
-- ==== Proof.Constants.lean ====
module

public import Idealize.ShloMosaic.PureOps
public import Idealize.ShloMosaic.PureOps.Ideal.Laws

@[expose] public section

/-! # The numbers the programs' literals denote -/

namespace Cert.Constants

open Idealize.ShloMosaic

/-- The zero that fills the sums and starts the search. -/
theorem zero : Ideal.ofBits .f32 0x00000000#32 = 0 := by
  simp [Ideal.ofBits, Ideal.ieee]

/-- The factor of the midpoint. -/
theorem half : Ideal.ofBits .f32 0x3F000000#32 = ((1 / 2 : ℝ) : EReal) := by
  simp [Ideal.ofBits, Ideal.ieee, -EReal.coe_mul]; norm_num

/-- The number of entries a row keeps. -/
theorem keep : Ideal.ofBits .f32 0x444CC000#32 = ((819 : ℝ) : EReal) := by
  simp [Ideal.ofBits, Ideal.ieee, -EReal.coe_mul]; norm_num

/-- The resolution of the search, relative to the greatest score. -/
theorem gap : Ideal.ofBits .f32 0x30800000#32 = ((1 / 2 ^ 30 : ℝ) : EReal) := by
  simp [Ideal.ofBits, Ideal.ieee, -EReal.coe_mul]; norm_num

/-- The bound's factor of the greatest score. -/
theorem slack : Ideal.ofBits .f32 0x32800000#32 = ((1 / 2 ^ 26 : ℝ) : EReal) := by
  simp [Ideal.ofBits, Ideal.ieee, -EReal.coe_mul]; norm_num

/-- The start of a maximum. -/
theorem negInf : Ideal.ofBits .f32 0xFF800000#32 = ⊥ := by
  simp [Ideal.ofBits, Ideal.ieee]

end Cert.Constants
-- ==== Proof.TopList.lean ====
module

public import Idealize.ShloMosaic.PureOps
public import Idealize.ShloMosaic.PureOps.Ideal.Laws
public import Idealize.ShloMosaic.Lib.SortFacts
public import Idealize.ShloMosaic.Lib.ValueIdxCore

@[expose] public section

noncomputable section

/-! # The greatest entries of a row

What a stable descending top-`k` along the rows of a matrix holds, over extended reals: one permutation of each row puts it in
descending order, and the `j`-th value of the top-`k` is the `j`-th entry of the row so permuted, for every `k`. -/

namespace Cert.TopList

open Idealize.ShloMosaic Idealize.ShloMosaic.ValueIdx

variable {R n : ℕ} (x : FVec Ideal ⟨2, ![R, n]⟩ .f32) (r : Fin R)

/-- Whether the entry at one column of row `r` is greater than the entry at another. -/
def greater (a b : Fin n) : Bool := FloatOps.cmpfTotal (F := Ideal) (φ := .f32) .gt (x (ix2 r a)) (x (ix2 r b)) == 1#1

/-- The order of the list: entry `a` before entry `b` when it is the greater one. -/
theorem greater_iff (a b : Fin n) : greater x r a b = true ↔ x (ix2 r b) < x (ix2 r a) := by
  show (BitVec.ofBool (decide (x (ix2 r b) < x (ix2 r a))) == 1#1) = true ↔ _
  by_cases h : x (ix2 r b) < x (ix2 r a) <;> simp [h]

/-- The permutation of the columns that sorts row `r` in descending order, equal entries in column order. -/
def order : Equiv.Perm (Fin n) := Equiv.ofBijective (sortedFrom (greater x r)) ⟨sortedFrom_injective _, sortedFrom_surjective _⟩

/-- Row `r` in descending order. -/
def sorted (j : Fin n) : EReal := x (ix2 r (order x r j))

/-- The sorted row descends. -/
theorem antitone_sorted : Antitone (sorted x r) := fun i j hij => by
  rcases eq_or_lt_of_le hij with rfl | hlt
  · exact le_rfl
  · have h := sortedFrom_noInversion (greater x r) (greater x r)
      (fun a b h => by
        rw [greater_iff] at h; rw [← Bool.not_eq_true, greater_iff]; exact not_lt.mpr h.le)
      (fun _ _ h => h)
      (fun a b c h1 h2 => by
        rw [← Bool.not_eq_true, greater_iff] at h1 h2 ⊢
        exact not_lt.mpr ((not_lt.mp h1).trans (not_lt.mp h2))) i j hlt
    rw [← Bool.not_eq_true, greater_iff] at h
    exact not_lt.mp h

/-- The `j`-th value of the top-`k` of row `r` is the `j`-th entry of the row in descending order. -/
theorem topK_apply {k : ℕ} (hk : k ≤ n) (h : (⟨2, ![R, n]⟩ : Shape).Slices (fun _ => 0) ⟨2, ![R, k]⟩) (j : Fin k) :
    (Host.topK ⟨2, ![R, k]⟩ 1 (FloatOps.cmpfTotal .gt) x h).1 (ix2 r j) = sorted x r (Fin.castLE hk j) := by
  have hal : ∀ (c b : Fin n), (ix2 r c).along (s := ⟨2, ![R, n]⟩) 1 b = ix2 r b := fun c b => by
    funext a
    match a with
    | ⟨0, _⟩ => rfl
    | ⟨1, _⟩ => rfl
  have hix : (fun a : Fin 2 => (⟨0 + ((ix2 r j : (⟨2, ![R, k]⟩ : Shape).Idx) (a.cast h.1.symm)).val,
      Nat.lt_of_lt_of_le (Nat.add_lt_add_left (Fin.isLt _) _) (h.2 a)⟩ : Fin ((⟨2, ![R, n]⟩ : Shape).size a)))
      = ix2 r (Fin.castLE hk j) := by
    funext a
    match a with
    | ⟨0, _⟩ => exact Fin.ext (Nat.zero_add _)
    | ⟨1, _⟩ => exact Fin.ext (Nat.zero_add _)
  have hread : ∀ i : (⟨2, ![R, n]⟩ : Shape).Idx, (Host.sort2 ⟨2, ![R, n]⟩ 1
      (fun l l' : EReal × BitVec 32 => FloatOps.cmpfTotal (F := Ideal) (φ := .f32) .gt l.1 l'.1) x
        (fun i => if hd : 1 < (⟨2, ![R, n]⟩ : Shape).rank then iotaInDim ⟨2, ![R, n]⟩ 32 ⟨1, hd⟩ i else 0#32)).1 i
      = x (i.along 1 (sortedFrom (fun b b' : Fin n => FloatOps.cmpfTotal (F := Ideal) (φ := .f32) .gt
          (x (i.along (1 : Fin 2) b)) (x (i.along (1 : Fin 2) b')) == 1#1) (i 1))) := fun _ => rfl
  refine Eq.trans (congrArg (Host.sort2 ⟨2, ![R, n]⟩ 1
      (fun l l' : EReal × BitVec 32 => FloatOps.cmpfTotal (F := Ideal) (φ := .f32) .gt l.1 l'.1) x
        (fun i => if hd : 1 < (⟨2, ![R, n]⟩ : Shape).rank then iotaInDim ⟨2, ![R, n]⟩ 32 ⟨1, hd⟩ i else 0#32)).1 hix)
    ((hread _).trans ?_)
  simp only [hal]
  exact congrArg x (hal _ _)

end Cert.TopList
end
-- ==== Proof.Reference.lean ====
module

public import proofs.«01_k».proof.Proof.Gen.ReferenceIdeal.Run
public import proofs.«01_k».proof.Proof.Gen.ReferenceIdeal.Read
public import proofs.«01_k».proof.Proof.Constants
public import proofs.«01_k».proof.Proof.TopList
public import Idealize.ShloMosaic.Lib.Claim
public import Idealize.ShloMosaic.Lib.IdealHost

@[expose] public section

noncomputable section

/-! # What the reference computes -/

namespace Cert.ReferenceIdeal.Read

open Idealize.ShloMosaic Idealize.ShloMosaic.TcCoe Idealize.ShloMosaic.ValueIdx Idealize.SL.Sem
open Cert.ReferenceIdeal Cert.ReferenceIdeal.Gen

variable (x0 : FVec Ideal S32x128x8192 .f32) (x1 : FVec Ideal S128 .f32) (x2 : FVec Ideal S1 .f32)

/-- The score of position `j` of batch row `r` is the magnitude of the weighted sum of the features plus the bias. -/
theorem scores_apply (r : Fin 32) (j : Fin 8192) :
    val_main_v4 (F := Ideal) x0 x1 x2 (ix2 r j)
      = max ((∑ k : Fin 128, x0 (ix3 r k j) * x1 (ix1 k)) + x2 (ix1 0))
          (-((∑ k : Fin 128, x0 (ix3 r k j) * x1 (ix1 k)) + x2 (ix1 0))) := by
  have h : val_main_v3 (F := Ideal) x0 x1 x2 (ix2 r j) = (∑ k : Fin 128, x0 (ix3 r k j) * x1 (ix1 k)) + x2 (ix1 0) := by
    rw [val_main_v3_apply, val_main_v0_apply, val_main_v2_apply, val_main_v1_apply]
    have e0 : ∀ k, lidx_main_v0 (ix2 r j) k = ix3 r k j := fun k => funext fun a =>
      match a with | ⟨0, _⟩ => rfl | ⟨1, _⟩ => rfl | ⟨2, _⟩ => rfl
    have e1 : ∀ k, ridx_main_v0 (ix2 r j) k = ix1 k := fun k => funext fun a => match a with | ⟨0, _⟩ => rfl
    have e2 : idx_main_v1 (idx_main_v2 (ix2 r j)) = ix1 0 := funext fun a => match a with | ⟨0, _⟩ => rfl
    simp only [e0, e1, e2]
    rfl
  rw [val_main_v4_apply, h]
  rfl

/-- Scores are not negative. -/
theorem scores_nonneg (i : S32x8192.Idx) : 0 ≤ val_main_v4 (F := Ideal) x0 x1 x2 i := by
  show 0 ≤ max (val_main_v3 (F := Ideal) x0 x1 x2 i) (-(val_main_v3 (F := Ideal) x0 x1 x2 i))
  rcases le_total 0 (val_main_v3 (F := Ideal) x0 x1 x2 i) with h | h
  · exact h.trans (le_max_left _ _)
  · exact (EReal.neg_nonneg.mpr h).trans (le_max_right _ _)

/-- The result of row `r` is the sum of the row's 819 greatest scores over 819. -/
theorem mean_apply (r : Fin 32) (j : Fin 1) :
    val_main_v8 (F := Ideal) x0 x1 x2 (ix2 r j)
      = (∑ k : Fin 819, TopList.sorted (val_main_v4 (F := Ideal) x0 x1 x2) r (Fin.castLE (by decide) k))
          * ((1 / 819 : ℝ) : EReal) := by
  rw [val_main_v8_apply, val_main_v6_apply, val_main_v5_apply, val_main_v7_apply, val_main_cst_apply, val_main_cst_0_apply]
  show Ideal.div (Ideal.ofBits .f32 0x00000000#32 + _) (Ideal.ofBits .f32 0x444CC000#32) = _
  rw [Constants.zero, Constants.keep, zero_add, Ideal.div_coe (by norm_num)]
  congr 1
  refine Finset.sum_congr rfl fun k _ => ?_
  have e : idx_main_v5 (idx_main_v6 (ix2 r j)) k = ix2 r k := funext fun a => match a with | ⟨0, _⟩ => rfl | ⟨1, _⟩ => rfl
  rw [e]
  exact TopList.topK_apply _ r (by decide) _ k

variable (m : (ℓ : Loc nD τ sig) → Buf (Elt Ideal) ℓ) (ρ : Dev nD → PrngReg)

/-- The reference runs to the end with its arguments unchanged and every semaphore counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

end Cert.ReferenceIdeal.Read
end
-- ==== Proof.Scores.lean ====
module

public import proofs.«01_k».proof.Proof.Result
public import proofs.«01_k».proof.Proof.Reference
public import Idealize.ShloMosaic.Lib.ValueLayout

@[expose] public section

set_option maxRecDepth 16384

noncomputable section

/-! # The kernel's scores are the reference's -/

namespace Cert.KernelIdeal.Body

open Idealize.ShloMosaic Idealize.ShloMosaic.TcCoe Idealize.ShloMosaic.ValueIdx Idealize.ShloMosaic.StableHlo
open Idealize.SL.Sem
open Cert.KernelIdeal Cert.KernelIdeal.Gen

variable {F : FTy → Type} [FloatOps F] [Named F]
variable (m : (ℓ : Loc nD τ sig) → Buf (Elt F) ℓ) (c : Dev nD)

/-- The launch reshapes the weights to one row. -/
theorem weights_eq (k : Fin 128) : (V m c main_v0 : Vec F S1x128 .f32) (ix2 0 k) = m ((c.tc : Thread nD τ).loc main_arg1) (ix1 k) := by
  have h : V m c main_v0 = shapeCast S1x128 (m ((c.tc : Thread nD τ).loc main_arg1)) shapeCasts_S128_S1x128 := by
    show after hostOps0 _ (Proc.devRef .tc main_v0) = _
    after_results
    rfl
  rw [h]
  exact shapeCast_a_1a_apply _ _ _ _

/-- The launch reshapes the bias to one element. -/
theorem bias_eq : (V m c main_v1 : Vec F S1x1 .f32) (ix2 0 0) = m ((c.tc : Thread nD τ).loc main_arg2) (ix1 0) := by
  have h : V m c main_v1 = shapeCast S1x1 (m ((c.tc : Thread nD τ).loc main_arg2)) shapeCasts_S1_S1x1 := by
    show after hostOps0 _ (Proc.devRef .tc main_v1) = _
    after_results
    rfl
  rw [h]
  exact shapeCast_a_1a_apply _ _ _ _

/-- The block of features at the point scoring row `r` is the row's. -/
theorem block_0 (r : Fin 32) (k : Fin 128) (j : Fin 8192) :
    (iblk m c 0 (pt r) : Vec F S1x128x8192 .f32) (ix3 0 k j) = m ((c.tc : Thread nD τ).loc main_arg0) (ix3 r k j) := by
  rw [← V_main_arg0 m c]
  unfold iblk
  show V m c main_arg0 _ = _
  refine congrArg (V m c main_arg0) (funext fun a => Fin.ext ?_)
  refine (Pipeline.Window.rect_emb_val (cfg0.win 0) (pt r) (ix3 0 k j) a).trans ?_
  match a with
  | ⟨0, _⟩ =>
    have h : (cfg0.win 0).index (pt r) 0 = r.val := by
      show (BitVec.ofNat 32 (grid0.coords (pt r) 0).val).toNat = r.val
      rw [coord_eq, BitVec.toNat_ofNat]
      exact Nat.mod_eq_of_lt (by show r.val < 2 ^ 32; omega)
    show (cfg0.win 0).index (pt r) 0 * 1 + 0 = r.val
    rw [h]; omega
  | ⟨1, _⟩ => show 0 * 128 + k.val = k.val; omega
  | ⟨2, _⟩ => show 0 * 8192 + j.val = j.val; omega

/-- The block of weights is the weights at every point. -/
theorem block_1 (t : Fin cfg0.N) (k : Fin 128) :
    (iblk m c 1 t : Vec F S1x128 .f32) (ix2 0 k) = m ((c.tc : Thread nD τ).loc main_arg1) (ix1 k) := by
  rw [← weights_eq m c]
  unfold iblk
  show V m c main_v0 _ = _
  refine congrArg (V m c main_v0) (funext fun a => Fin.ext ?_)
  refine (Pipeline.Window.rect_emb_val_of_index_zero (cfg0.win 1) t a ?_ (ix2 0 k)).trans ?_
  · revert a; exact Fin.forall_fin_two.mpr ⟨rfl, rfl⟩
  · match a with
    | ⟨0, _⟩ => rfl
    | ⟨1, _⟩ => rfl

/-- The block of the bias is the bias at every point. -/
theorem block_2 (t : Fin cfg0.N) :
    (iblk m c 2 t : Vec F S1x1 .f32) (ix2 0 0) = m ((c.tc : Thread nD τ).loc main_arg2) (ix1 0) := by
  rw [← bias_eq m c]
  unfold iblk
  show V m c main_v1 _ = _
  refine congrArg (V m c main_v1) (funext fun a => Fin.ext ?_)
  refine (Pipeline.Window.rect_emb_val_of_index_zero (cfg0.win 2) t a ?_ (ix2 0 0)).trans ?_
  · revert a; exact Fin.forall_fin_two.mpr ⟨rfl, rfl⟩
  · match a with
    | ⟨0, _⟩ => rfl
    | ⟨1, _⟩ => rfl

/-- One row of scores, read at a position: the magnitude of the weighted sum of the features plus the bias. -/
theorem pay1_apply (x : Vec Ideal S1x128x8192 .f32) (w : Vec Ideal S1x128 .f32) (b : EReal) (j : Fin 8192) :
    k0_pay1 (F := Ideal) x w b (ix2 0 j)
      = max ((∑ k : Fin 128, w (ix2 0 k) * x (ix3 0 k j)) + b) (-((∑ k : Fin 128, w (ix2 0 k) * x (ix3 0 k j)) + b)) := by
  unfold k0_pay1
  rw [shapeCast_self, shapeCast_self]
  have hm : FloatOps.matmul (F := Ideal) (φ₁ := .f32) (φ₂ := .f32) dot_S1x128_S128x8192_S1x8192_1_0_0_1_n_n none w
      (shapeCast S128x8192 x shapeCasts_S1x128x8192_S128x8192) (constant S1x8192 .f32 0x00000000#32) (ix2 0 j)
      = ∑ k : Fin 128, w (ix2 0 k) * x (ix3 0 k j) := by
    rw [Ideal.matmul_constant_zero_apply, ← Equiv.sum_comp (contrEquiv1 dot_S1x128_S128x8192_S1x8192_1_0_0_1_n_n 128 rfl rfl).symm]
    refine Finset.sum_congr rfl fun k _ => ?_
    have hk := contrEquiv1_symm_val dot_S1x128_S128x8192_S1x8192_1_0_0_1_n_n 128 rfl rfl k
    have el : dot_S1x128_S128x8192_S1x8192_1_0_0_1_n_n.lhsIdx (ix2 0 j)
        ((contrEquiv1 dot_S1x128_S128x8192_S1x8192_1_0_0_1_n_n 128 rfl rfl).symm k) = ix2 0 k := by
      refine funext (Fin.forall_fin_two.mpr ⟨Subsingleton.elim (α := Fin 1) _ _, Fin.ext ?_⟩)
      exact (dot_S1x128_S128x8192_S1x8192_1_0_0_1_n_n.lhsIdx_val_of_single rfl _ _).trans hk
    have er : dot_S1x128_S128x8192_S1x8192_1_0_0_1_n_n.rhsIdx (ix2 0 j)
        ((contrEquiv1 dot_S1x128_S128x8192_S1x8192_1_0_0_1_n_n 128 rfl rfl).symm k) = ix2 k j := by
      refine funext (Fin.forall_fin_two.mpr ⟨Fin.ext ?_, Fin.ext ?_⟩)
      · exact (dot_S1x128_S128x8192_S1x8192_1_0_0_1_n_n.rhsIdx_val_of_single rfl _ _).trans hk
      · unfold DotDims.rhsIdx
        rw [dif_neg (by decide), dif_pos (by decide)]
        rfl
    rw [el, er]
    exact congrArg (w (ix2 0 k) * ·) (shapeCast_1ab_ab_apply _ _ _ _)
  show max (FloatOps.matmul (F := Ideal) (φ₁ := .f32) (φ₂ := .f32) dot_S1x128_S128x8192_S1x8192_1_0_0_1_n_n none w _ _ (ix2 0 j) + b)
    (-(FloatOps.matmul (F := Ideal) (φ₁ := .f32) (φ₂ := .f32) dot_S1x128_S128x8192_S1x8192_1_0_0_1_n_n none w _ _ (ix2 0 j) + b)) = _
  rw [hm]

/-- A row of the kernel's scores, on the row's features and the weights and bias, is the reference's row. -/
theorem pay1_eq (x : Vec Ideal S1x128x8192 .f32) (w : Vec Ideal S1x128 .f32) (b : EReal) (x0 : FVec Ideal S32x128x8192 .f32)
    (x1 : FVec Ideal S128 .f32) (x2 : FVec Ideal S1 .f32) (r : Fin 32) (j : Fin 8192) (h0 : ∀ k, x (ix3 0 k j) = x0 (ix3 r k j))
    (h1 : ∀ k, w (ix2 0 k) = x1 (ix1 k)) (h2 : b = x2 (ix1 0)) :
    k0_pay1 (F := Ideal) x w b (ix2 0 j) = Cert.ReferenceIdeal.Read.val_main_v4 (F := Ideal) x0 x1 x2 (ix2 r j) := by
  have hs : ∑ k : Fin 128, w (ix2 0 k) * x (ix3 0 k j) = ∑ k : Fin 128, x0 (ix3 r k j) * x1 (ix1 k) :=
    Finset.sum_congr rfl fun k _ => by rw [h0, h1, mul_comm]
  rw [pay1_apply, Cert.ReferenceIdeal.Read.scores_apply, hs, h2]

/-- The scores the kernel keeps are the reference's. -/
theorem scores_eq (m : (ℓ : Loc nD τ sig) → Buf (Elt Ideal) ℓ) (c : Dev nD) :
    scores m c = Cert.ReferenceIdeal.Read.val_main_v4 (F := Ideal) (m ((c.tc : Thread nD τ).loc main_arg0))
      (m ((c.tc : Thread nD τ).loc main_arg1)) (m ((c.tc : Thread nD τ).loc main_arg2)) := by
  funext i
  obtain ⟨r, j, rfl⟩ : ∃ (r : Fin 32) (j : Fin 8192), i = ix2 r j := ⟨i 0, i 1, eq_ix2 i⟩
  exact pay1_eq _ _ _ _ _ _ r j (fun k => block_0 m c r k j) (block_1 m c (pt r)) (block_2 m c (pt r))

end Cert.KernelIdeal.Body
end
-- ==== Proof.Threshold.lean ====
module

public import Mathlib.Data.EReal.Inv
public import Mathlib.Algebra.BigOperators.Fin
public import Mathlib.Data.Fintype.Fin
public import Mathlib.Algebra.Order.BigOperators.Group.Finset
public import Mathlib.Algebra.BigOperators.Ring.Finset
public import Mathlib.Tactic.Linarith
public import Mathlib.Tactic.Positivity
public import Mathlib.Tactic.FieldSimp
public import Mathlib.Tactic.Ring

@[expose] public section

noncomputable section

/-! # The mean of the `k` greatest entries by bisection

The mathematics of one row, with no program in it. `v` is a row sorted in descending order, so `v (k - 1)` is the `k`-th greatest
entry and `v 0` the greatest. -/

namespace Cert.Threshold

variable {n : ℕ}

/-- The number of entries at or above `m`, as an extended real. -/
def atLeast (s : Fin n → EReal) (m : EReal) : EReal := ∑ i, if m ≤ s i then 1 else 0

/-- The number of entries above `m`, as an extended real. -/
def above (s : Fin n → EReal) (m : EReal) : EReal := ∑ i, if m < s i then 1 else 0

/-- The sum of the entries above `m`. -/
def sumAbove (s : Fin n → EReal) (m : EReal) : EReal := ∑ i, if m < s i then s i else 0

/-- One bisection step: the midpoint becomes the lower end when at least `k` entries reach it, else the upper end. -/
def step (s : Fin n → EReal) (k : EReal) (p : EReal × EReal) : EReal × EReal :=
  if k ≤ atLeast s ((p.1 + p.2) * ((1 / 2 : ℝ) : EReal)) then ((p.1 + p.2) * ((1 / 2 : ℝ) : EReal), p.2)
  else (p.1, (p.1 + p.2) * ((1 / 2 : ℝ) : EReal))

/-- The sum of the entries above `t`, with `t` itself standing for the entries missing from `k`. -/
def filled (s : Fin n → EReal) (k t : EReal) : EReal := sumAbove s t + (k - above s t) * t

/-- The count does not depend on the order of the entries. -/
theorem atLeast_perm (s : Fin n → EReal) (e : Equiv.Perm (Fin n)) (m : EReal) : atLeast (s ∘ e) m = atLeast s m :=
  Equiv.sum_comp e fun i => if m ≤ s i then (1 : EReal) else 0

/-- A bisection step does not depend on the order of the entries. -/
theorem step_perm (s : Fin n → EReal) (e : Equiv.Perm (Fin n)) (k : EReal) : step (s ∘ e) k = step s k := by
  funext p; unfold step; rw [atLeast_perm]

/-- The filled sum does not depend on the order of the entries. -/
theorem filled_perm (s : Fin n → EReal) (e : Equiv.Perm (Fin n)) (k t : EReal) : filled (s ∘ e) k t = filled s k t := by
  unfold filled sumAbove above
  rw [← Equiv.sum_comp e fun i => if t < s i then s i else 0, ← Equiv.sum_comp e fun i => if t < s i then (1 : EReal) else 0]
  rfl

/-- A sum of reals, read as an extended real, is the sum of the entries read so. -/
theorem coe_sum (g : Fin n → ℝ) : ((∑ i, g i : ℝ) : EReal) = ∑ i, (g i : EReal) := by
  have h : ∀ S : Finset (Fin n), ((∑ i ∈ S, g i : ℝ) : EReal) = ∑ i ∈ S, (g i : EReal) := fun S => by
    induction S using Finset.induction_on with
    | empty => rfl
    | insert a S ha ih => rw [Finset.sum_insert ha, Finset.sum_insert ha, EReal.coe_add, ih]
  exact h _

/-- The sum of 0 and 1 over a condition is the number of indices where it holds. -/
theorem sum_ite_one (p : Fin n → Prop) [DecidablePred p] :
    (∑ i, if p i then (1 : EReal) else 0) = (((Finset.univ.filter p).card : ℝ) : EReal) := by
  rw [← Finset.sum_boole, coe_sum]
  exact Finset.sum_congr rfl fun i _ => by split <;> simp

/-- The first `k` entries, summed, are all the entries with the later ones replaced by zero, summed. -/
theorem sum_castLE {α : Type} [AddCommMonoid α] (f : Fin n → α) {k : ℕ} (hk : k ≤ n) :
    ∑ j : Fin k, f (Fin.castLE hk j) = ∑ i, if i.val < k then f i else 0 := by
  obtain ⟨r, rfl⟩ := Nat.exists_eq_add_of_le hk
  rw [Fin.sum_univ_add, Finset.sum_eq_zero (s := Finset.univ (α := Fin r)) fun i _ => by
    rw [if_neg]; rw [Fin.val_natAdd]; omega, add_zero]
  refine Finset.sum_congr rfl fun j _ => ?_
  rw [if_pos (by rw [Fin.val_castAdd]; exact j.isLt)]
  rfl

/-- At least `k` entries reach `m` exactly when the `k`-th greatest does. -/
theorem le_atLeast_iff (v : Fin n → EReal) (hv : Antitone v) (k : ℕ) (hk0 : 0 < k) (hk : k ≤ n) (m : EReal) :
    ((k : ℝ) : EReal) ≤ atLeast v m ↔ m ≤ v ⟨k - 1, by omega⟩ := by
  unfold atLeast
  rw [sum_ite_one, EReal.coe_le_coe_iff, Nat.cast_le]
  constructor
  · intro h
    by_contra hm
    have hsub : (Finset.univ.filter fun i => m ≤ v i) ⊆ Finset.univ.filter fun i : Fin n => i.val < k - 1 := fun i hi => by
      rw [Finset.mem_filter] at hi ⊢
      refine ⟨hi.1, ?_⟩
      by_contra hlt
      exact hm (hi.2.trans (hv (Fin.le_def.mpr (by show k - 1 ≤ i.val; omega))))
    have := Finset.card_le_card hsub
    rw [Fin.card_filter_val_lt] at this
    omega
  · intro h
    have hsub : (Finset.univ.filter fun i : Fin n => i.val < k) ⊆ Finset.univ.filter fun i => m ≤ v i := fun i hi => by
      rw [Finset.mem_filter] at hi ⊢
      exact ⟨hi.1, h.trans (hv (Fin.le_def.mpr (by show i.val ≤ k - 1; omega)))⟩
    have := Finset.card_le_card hsub
    rw [Fin.card_filter_val_lt] at this
    omega

/-! ## Finite rows -/

/-- After `j` steps on a row with a finite greatest entry `μ`, the two ends are `μ / 2 ^ j` apart with the `k`-th greatest
entry `ω` between them. -/
theorem bisect_finite (v : Fin n → EReal) (hv : Antitone v) (k : ℕ) (hk0 : 0 < k) (hk : k ≤ n) (ω μ : ℝ) (h0 : 0 ≤ ω)
    (hωμ : ω ≤ μ) (hω : v ⟨k - 1, by omega⟩ = ω) (j : ℕ) :
    ∃ lo hi : ℝ, (step v ((k : ℝ) : EReal))^[j] (0, (μ : EReal)) = ((lo : EReal), (hi : EReal))
      ∧ lo ≤ ω ∧ ω ≤ hi ∧ hi - lo = μ / 2 ^ j := by
  induction j with
  | zero => exact ⟨0, μ, rfl, h0, hωμ, by rw [pow_zero, div_one, sub_zero]⟩
  | succ j ih =>
    obtain ⟨lo, hi, he, hl, hh, hd⟩ := ih
    have hm : ((lo : EReal) + (hi : EReal)) * ((1 / 2 : ℝ) : EReal) = (((lo + hi) * (1 / 2) : ℝ) : EReal) := by
      rw [EReal.coe_mul, EReal.coe_add]
    have hp : μ / 2 ^ (j + 1) = (hi - lo) / 2 := by rw [hd, pow_succ, div_div]
    rw [Function.iterate_succ_apply', he]
    unfold step
    simp only [hm, le_atLeast_iff v hv k hk0 hk, hω, EReal.coe_le_coe_iff]
    by_cases h : (lo + hi) * (1 / 2) ≤ ω
    · rw [if_pos h]; exact ⟨_, _, rfl, h, hh, by rw [hp]; ring⟩
    · rw [if_neg h]; exact ⟨_, _, rfl, hl, (not_le.mp h).le, by rw [hp]; ring⟩

/-- On a finite row whose `k`-th greatest entry is at least `t`, the completed sum exceeds the sum of the `k` greatest entries
by what the other entries exceed `t`. -/
theorem filled_finite (g : Fin n → ℝ) (hg : Antitone g) (k : ℕ) (hk0 : 0 < k) (hk : k ≤ n) (t : ℝ) (ht : t ≤ g ⟨k - 1, by omega⟩) :
    filled (fun i => (g i : EReal)) ((k : ℝ) : EReal) t
      = (((∑ j : Fin k, g (Fin.castLE hk j)) + ∑ i : Fin n, (if i.val < k then 0 else max (g i - t) 0) : ℝ) : EReal) := by
  have hA : above (fun i => (g i : EReal)) t = ((∑ i, (if t < g i then (1 : ℝ) else 0) : ℝ) : EReal) := by
    unfold above; rw [coe_sum]
    exact Finset.sum_congr rfl fun i _ => by simp only [EReal.coe_lt_coe_iff]; split <;> simp
  have hS : sumAbove (fun i => (g i : EReal)) t = ((∑ i, (if t < g i then g i else 0) : ℝ) : EReal) := by
    unfold sumAbove; rw [coe_sum]
    exact Finset.sum_congr rfl fun i _ => by simp only [EReal.coe_lt_coe_iff]; split <;> simp
  unfold filled
  rw [hA, hS, ← EReal.coe_sub, ← EReal.coe_mul, ← EReal.coe_add, EReal.coe_eq_coe_iff, sum_castLE g hk]
  have hkk : (k : ℝ) = ∑ i : Fin n, if i.val < k then (1 : ℝ) else 0 := by
    rw [← sum_castLE (fun _ => (1 : ℝ)) hk]; simp
  rw [hkk, ← Finset.sum_sub_distrib, Finset.sum_mul, ← Finset.sum_add_distrib, ← Finset.sum_add_distrib]
  refine Finset.sum_congr rfl fun i _ => ?_
  by_cases hi : i.val < k
  · have hti : t ≤ g i := ht.trans (hg (Fin.le_def.mpr (by show i.val ≤ k - 1; omega)))
    by_cases h : t < g i
    · simp only [if_pos hi, if_pos h]; ring
    · simp only [if_pos hi, if_neg h]; linarith [le_antisymm hti (not_lt.mp h)]
  · by_cases h : t < g i
    · simp only [if_neg hi, if_pos h, max_eq_left (sub_nonneg.mpr h.le)]; ring
    · simp only [if_neg hi, if_neg h, max_eq_right (sub_nonpos.mpr (not_lt.mp h))]; ring

/-! ## The two results -/

variable (v : Fin n → EReal) (hv : Antitone v) (hv0 : ∀ i, 0 ≤ v i) (k : ℕ) (hk : k ≤ n)

/-- A sum of non-negative extended reals with an infinite entry is infinite. -/
theorem sum_eq_top {m : ℕ} (f : Fin m → EReal) (h0 : ∀ i, 0 ≤ f i) (i : Fin m) (hi : f i = ⊤) : ∑ i, f i = ⊤ :=
  top_le_iff.mp (hi ▸ Finset.single_le_sum (fun i _ => h0 i) (Finset.mem_univ i))

include hv0 in
/-- On a row with an infinite greatest entry both sums are infinite, whatever the number of steps. -/
theorem infinite_row (hk0 : 0 < k) (h : v ⟨0, by omega⟩ = ⊤) (j : ℕ) :
    filled v ((k : ℝ) : EReal) ((step v ((k : ℝ) : EReal))^[j] (0, ⊤)).1 = ⊤ ∧ ∑ j : Fin k, v (Fin.castLE hk j) = ⊤ := by
  have hhalf : (⊤ : EReal) * ((1 / 2 : ℝ) : EReal) = ⊤ := EReal.top_mul_coe_of_pos (by norm_num)
  refine ⟨?_, sum_eq_top _ (fun i => hv0 _) ⟨0, hk0⟩ h⟩
  have hs : (step v ((k : ℝ) : EReal))^[j] (0, ⊤) = (0, ⊤) ∨ (step v ((k : ℝ) : EReal))^[j] (0, ⊤) = (⊤, ⊤) := by
    induction j with
    | zero => exact .inl rfl
    | succ j ih =>
      rw [Function.iterate_succ_apply']
      rcases ih with ih | ih <;> rw [ih] <;> unfold step <;> simp only [zero_add, EReal.top_add_top, hhalf] <;> split <;> simp
  rcases hs with hs | hs <;> rw [hs] <;> unfold filled
  · rw [mul_zero, add_zero]
    refine sum_eq_top _ (fun i => ?_) ⟨0, by omega⟩ (by rw [h, if_pos EReal.zero_lt_top])
    split
    · exact hv0 i
    · exact le_rfl
  · have hA : above v ⊤ = 0 := Finset.sum_eq_zero fun i _ => if_neg not_top_lt
    have hS : sumAbove v ⊤ = 0 := Finset.sum_eq_zero fun i _ => if_neg not_top_lt
    rw [hA, hS, sub_zero, zero_add]
    exact EReal.coe_mul_top_of_pos (Nat.cast_pos.mpr hk0)

include hv hv0 in
/-- A row with a finite greatest entry is a row of reals. -/
theorem finite_row (hn : 0 < n) (h : v ⟨0, hn⟩ ≠ ⊤) : ∃ g : Fin n → ℝ, Antitone g ∧ (∀ i, 0 ≤ g i) ∧ v = fun i => (g i : EReal) := by
  have hc : ∀ i, ((v i).toReal : EReal) = v i := fun i =>
    EReal.coe_toReal (fun e => h (top_le_iff.mp (e ▸ hv (Fin.le_def.mpr (Nat.zero_le _)))))
      (ne_of_gt (lt_of_lt_of_le EReal.bot_lt_zero (hv0 i)))
  exact ⟨fun i => (v i).toReal, fun i j hij => EReal.coe_le_coe_iff.mp (by rw [hc, hc]; exact hv hij),
    fun i => EReal.coe_le_coe_iff.mp (by rw [hc]; exact hv0 i), funext fun i => (hc i).symm⟩

include hv hv0 in
/-- After `j` steps the completed sum is at least the sum of the `k` greatest entries and exceeds it by at most `n - k` times
the greatest entry over `2 ^ j`; when the `k`-th greatest entry exceeds the next by the greatest entry over `2 ^ j` it is that
sum. -/
theorem bisect_sum (hk0 : 0 < k) (hkn : k < n) (j : ℕ) (E S : EReal)
    (hE : E = filled v ((k : ℝ) : EReal) ((step v ((k : ℝ) : EReal))^[j] (0, v ⟨0, by omega⟩)).1)
    (hS : S = ∑ j : Fin k, v (Fin.castLE hk j)) :
    S ≤ E ∧ (E = ⊤ ∧ S = ⊤ ∨ ∃ x y μ : ℝ, E = x ∧ S = y ∧ v ⟨0, by omega⟩ = μ ∧ x ≤ y + (n - k : ℕ) * (μ / 2 ^ j))
      ∧ (v ⟨k, hkn⟩ + v ⟨0, by omega⟩ * ((1 / 2 ^ j : ℝ) : EReal) ≤ v ⟨k - 1, by omega⟩ → E = S) := by
  by_cases htop : v ⟨0, by omega⟩ = ⊤
  · have := infinite_row v hv0 k hk hk0 htop j
    rw [htop, this.1] at hE
    rw [this.2] at hS
    rw [hE, hS]
    exact ⟨le_rfl, .inl ⟨rfl, rfl⟩, fun _ => rfl⟩
  · obtain ⟨g, hg, hg0, rfl⟩ := finite_row v hv hv0 (by omega) htop
    obtain ⟨lo, hi, he, hl, hh, hd⟩ := bisect_finite (fun i => (g i : EReal)) hv k hk0 hk (g ⟨k - 1, by omega⟩) (g ⟨0, by omega⟩)
      (hg0 _) (hg (Fin.le_def.mpr (Nat.zero_le _))) rfl j
    simp only at hE hS ⊢
    rw [he, filled_finite g hg k hk0 hk lo hl] at hE
    rw [← coe_sum] at hS
    subst hE hS
    have hnn : ∀ i : Fin n, 0 ≤ (if i.val < k then 0 else max (g i - lo) 0 : ℝ) := fun i => by
      split
      · exact le_rfl
      · exact le_max_right _ _
    refine ⟨EReal.coe_le_coe_iff.mpr (le_add_of_nonneg_right (Finset.sum_nonneg fun i _ => hnn i)),
      .inr ⟨_, _, _, rfl, rfl, rfl, add_le_add_right ?_ _⟩, fun h => ?_⟩
    · have hb : ∀ i : Fin n, (if i.val < k then 0 else max (g i - lo) 0 : ℝ)
          ≤ (if i.val < k then 0 else g ⟨0, by omega⟩ / 2 ^ j : ℝ) := fun i => by
        split
        · exact le_rfl
        · rename_i hik
          have : g i ≤ g ⟨k - 1, by omega⟩ := hg (Fin.le_def.mpr (by show k - 1 ≤ i.val; omega))
          exact max_le (by linarith) (div_nonneg (hg0 _) (by positivity))
      refine (Finset.sum_le_sum fun i _ => hb i).trans (le_of_eq ?_)
      have hcard : (Finset.univ.filter fun i : Fin n => ¬ i.val < k).card = n - k := by
        have := Finset.card_filter_add_card_filter_not (s := (Finset.univ : Finset (Fin n))) (fun i => i.val < k)
        rw [Fin.card_filter_val_lt, Finset.card_univ, Fintype.card_fin] at this
        omega
      rw [← hcard, Finset.sum_ite, Finset.sum_const_zero, zero_add, Finset.sum_const, nsmul_eq_mul]
    · rw [← EReal.coe_mul, ← EReal.coe_add, EReal.coe_le_coe_iff, mul_one_div] at h
      rw [EReal.coe_eq_coe_iff, add_eq_left]
      refine Finset.sum_eq_zero fun i _ => ?_
      split
      · rfl
      · rename_i hik
        have : g i ≤ g ⟨k, hkn⟩ := hg (Fin.le_def.mpr (by show k ≤ i.val; omega))
        exact max_eq_right (by linarith)

end Cert.Threshold
end
-- ==== Proof.Final.lean ====
module

public import proofs.«01_k».proof.Proof.Body
public import proofs.«01_k».proof.Proof.Constants
public import proofs.«01_k».proof.Proof.Threshold
public import Idealize.ShloMosaic.Lib.ValueLayout
public import Idealize.ShloMosaic.PureOps.Ideal.Laws

@[expose] public section

set_option maxRecDepth 16384

noncomputable section

/-! # What the last grid point stores, row by row, over extended reals -/

namespace Cert.KernelIdeal.Body

open Idealize.ShloMosaic Idealize.ShloMosaic.TcCoe Idealize.ShloMosaic.ValueIdx
open Cert.KernelIdeal Cert.KernelIdeal.Gen

/-- A column of one value per row, read at a row. -/
theorem column_apply (x : FVec Ideal S32 .f32) (r : Fin 32) (u : Fin 1) :
    shapeCast S32x1 x shapeCasts_S32_S32x1 (ix2 r u) = x (ix1 r) :=
  shapeCast_apply x _ _ _ (by
    have hu : u.val = 0 := by omega
    rw [Shape.rowMajor_val_one, Shape.rowMajor_val_two]
    show r.val = r.val * 1 + u.val
    omega)

/-- One value per row, spread along the row. -/
theorem spread_apply (x : FVec Ideal S32x1 .f32) (r : Fin 32) (j : Fin 8192) :
    broadcastTo S32x8192 x broadcasts_S32x1_S32x8192 (ix2 r j) = x (ix2 r 0) :=
  broadcastTo_apply x _ _ _ (fun a => by
    match a with
    | ⟨0, _⟩ => rfl
    | ⟨1, _⟩ => rfl)

/-- The index that a sum along row `r` visits at `j`. -/
theorem lift_apply (r : Fin 32) (j : Fin 8192) : reduces_S32x8192_S32.lift (ix1 r) j = ix2 r j :=
  funext (Fin.forall_fin_two.mpr ⟨Fin.ext rfl, Fin.ext rfl⟩)

/-- The rows' sums, kept as a column. -/
def rowSum (x : FVec Ideal S32x8192 .f32) : FVec Ideal S32x1 .f32 :=
  shapeCast S32x1 (multiReduction .add [1] S32 x 0x00000000#32 reduces_S32x8192_S32 (.inl rfl) rfl) shapeCasts_S32_S32x1

/-- A row of `rowSum` is the sum of that row. -/
theorem rowSum_apply (x : FVec Ideal S32x8192 .f32) (r : Fin 32) (u : Fin 1) : rowSum x (ix2 r u) = ∑ j : Fin 8192, x (ix2 r j) :=
  (column_apply _ r u).trans <| (Ideal.multiReduction_add_single x _ reduces_S32x8192_S32 _ _ (ix1 r)).trans <|
    Finset.sum_congr rfl fun j _ => congrArg x (lift_apply r j)

/-- Row `r` of the scores. -/
def row (s : Vec Ideal S32x8192 .f32) (r : Fin 32) : Fin 8192 → EReal := fun j => s (ix2 r j)

/-- A row's maximum, kept as a column. -/
theorem rowMax_apply (s : Vec Ideal S32x8192 .f32) (r : Fin 32) (u : Fin 1) :
    k0_pay2 s (ix2 r u) = Finset.univ.fold max ⊥ (row s r) := by
  have hrow : s ∘ reduces_S32x8192_S32.lift (ix1 r) = row s r := funext fun j => congrArg s (lift_apply r j)
  have h := Ideal.multiReduction_maximumf_single (φ := .f32) s 0xFF800000#32 reduces_S32x8192_S32 (.inl rfl) rfl (ix1 r)
  rw [hrow, show FloatOps.ofBits (F := Ideal) .f32 0xFF800000#32 = ⊥ from Constants.negInf] at h
  unfold k0_pay2
  rw [column_apply]
  exact h

/-- A comparison's bit, widened and read as a number, is one or zero. -/
theorem indicator (p : Prop) [Decidable p] :
    ((((BitVec.ofBool (decide p)).setWidth 32).toInt : ℝ) : EReal) = if p then (1 : EReal) else 0 := by
  by_cases h : p
  · rw [if_pos h, decide_eq_true h, show ((BitVec.ofBool true).setWidth 32).toInt = 1 from by decide]; norm_num
  · rw [if_neg h, decide_eq_false h, show ((BitVec.ofBool false).setWidth 32).toInt = 0 from by decide]; norm_num

/-- A choice by a comparison's bit. -/
theorem choose {α : Type*} (p : Prop) [Decidable p] (a b : α) :
    (if BitVec.ofBool (decide p) = 1#1 then a else b) = if p then a else b := by
  by_cases h : p
  · rw [if_pos h, decide_eq_true h]; rfl
  · rw [if_neg h, decide_eq_false h]; rfl

/-- The number of entries a row keeps, as the extended real the program compares with. -/
abbrev kept : EReal := ((819 : ℝ) : EReal)

/-- The midpoint of the two ends, in a row. -/
theorem pay4_apply (lo hi : FVec Ideal S32x1 .f32) (r : Fin 32) :
    k0_pay4 lo hi (ix2 r 0) = (lo (ix2 r 0) + hi (ix2 r 0)) * ((1 / 2 : ℝ) : EReal) := by
  show (lo (ix2 r 0) + hi (ix2 r 0)) * Ideal.ofBits .f32 0x3F000000#32 = _
  rw [Constants.half]

/-- The test of one step, in a row: at least 819 entries reach the midpoint. -/
theorem pay5_apply (s : Vec Ideal S32x8192 .f32) (lo hi : FVec Ideal S32x1 .f32) (r : Fin 32) :
    k0_pay5 s lo hi (ix2 r 0) = BitVec.ofBool (decide (kept ≤ Threshold.atLeast (row s r) (k0_pay4 lo hi (ix2 r 0)))) := by
  refine Eq.trans (b := BitVec.ofBool (decide (Ideal.ofBits .f32 0x444CC000#32 ≤ rowSum (sitofp .f32 (extui 32 (cmpf .oge s (broadcastTo S32x8192 (k0_pay4 lo hi) broadcasts_S32x1_S32x8192)) natLt_1_32)) (ix2 r 0)))) rfl ?_
  rw [rowSum_apply, Constants.keep]
  refine congrArg (fun z : EReal => BitVec.ofBool (decide (kept ≤ z))) (Finset.sum_congr rfl fun j _ => ?_)
  refine Eq.trans ?_ (indicator _)
  show ((((BitVec.ofBool (decide (broadcastTo S32x8192 (k0_pay4 lo hi) broadcasts_S32x1_S32x8192 (ix2 r j) ≤ s (ix2 r j)))).setWidth 32).toInt : ℝ) : EReal) = _
  rw [spread_apply]; rfl

/-- One step of the loop, in a row, is one bisection step of that row. -/
theorem step_apply (s : Vec Ideal S32x8192 .f32) (lo hi : FVec Ideal S32x1 .f32) (r : Fin 32) :
    (k0_pay6 s lo hi (ix2 r 0), k0_pay7 s lo hi (ix2 r 0)) = Threshold.step (row s r) kept (lo (ix2 r 0), hi (ix2 r 0)) := by
  show ((if k0_pay5 s lo hi (ix2 r 0) = 1#1 then k0_pay4 lo hi (ix2 r 0) else lo (ix2 r 0)),
    (if k0_pay5 s lo hi (ix2 r 0) = 1#1 then hi (ix2 r 0) else k0_pay4 lo hi (ix2 r 0))) = _
  rw [pay5_apply, choose, choose, pay4_apply]
  unfold Threshold.step
  split <;> rfl

/-- The two ends of the bisection, in a row. -/
def atRow (r : Fin 32) (p : FVec Ideal S32x1 .f32 × FVec Ideal S32x1 .f32) : EReal × EReal := (p.1 (ix2 r 0), p.2 (ix2 r 0))

/-- One step of the loop on whole columns. -/
def stepAll (s : Vec Ideal S32x8192 .f32) (p : FVec Ideal S32x1 .f32 × FVec Ideal S32x1 .f32) :
    FVec Ideal S32x1 .f32 × FVec Ideal S32x1 .f32 := (k0_pay6 s p.1 p.2, k0_pay7 s p.1 p.2)

/-- The search starts from zero and the row's maximum. -/
theorem start_apply (s : Vec Ideal S32x8192 .f32) (r : Fin 32) :
    atRow r (k0_pay3, k0_pay2 s) = (0, Finset.univ.fold max ⊥ (row s r)) := by
  have h0 : k0_pay3 (F := Ideal) (ix2 r 0) = (0 : EReal) := Constants.zero
  have h1 : k0_pay2 s (ix2 r 0) = Finset.univ.fold max ⊥ (row s r) := rowMax_apply s r 0
  unfold atRow
  dsimp only
  rw [h0, h1]

/-- The loop is thirty steps. -/
theorem bounds_eq (s : Vec Ideal S32x8192 .f32) : bounds s = (stepAll s)^[30] (k0_pay3, k0_pay2 s) := by
  have h : bounds s = (List.finRange k0_t1_loop.trips).foldl (fun p _ => stepAll s p) (k0_pay3, k0_pay2 s) := Scf.fold_eq _ _
  rw [h, List.foldl_const, List.length_finRange, show k0_t1_loop.trips = 30 from by decide]

/-- After the loop's thirty steps, in a row. -/
theorem bounds_apply (s : Vec Ideal S32x8192 .f32) (r : Fin 32) :
    atRow r (bounds s) = (Threshold.step (row s r) kept)^[30] (0, Finset.univ.fold max ⊥ (row s r)) := by
  have hsemi : Function.Semiconj (atRow r) (stepAll s) (Threshold.step (row s r) kept) := fun p => step_apply s p.1 p.2 r
  rw [bounds_eq, (hsemi.iterate_right 30).eq, start_apply]

/-- The named constant is read as the exact `1/819`. -/
theorem inv_k : Named.named (F := Ideal) (φ := .f32) Cert.KernelIdeal.κ "inv_k" 0x3AA00A01#32 = ((1 / 819 : ℝ) : EReal) :=
  IdealRules.named_const.ideal_named_scalar _ _ _ _ rfl

/-- The last lines' arithmetic, entry by entry. -/
theorem combine_apply (a b lo : FVec Ideal S32x1 .f32) (k c : Ideal .f32) (i : S32x1.Idx) :
    mulf (addf a (mulf (subf (broadcast S32x1 k) b) lo)) (broadcast S32x1 c) i = ((a i + (k - b i) * lo i) * c : EReal) := rfl

/-- The sum of a row's entries above a threshold, filled up to 819 entries with the threshold itself, times `1/819`. -/
theorem pay8_apply (s : Vec Ideal S32x8192 .f32) (lo : FVec Ideal S32x1 .f32) (r : Fin 32) :
    k0_pay8 s lo (ix2 r 0) = Threshold.filled (row s r) kept (lo (ix2 r 0)) * ((1 / 819 : ℝ) : EReal) := by
  have h : k0_pay8 s lo = mulf (addf
        (rowSum (select (cmpf .ogt s (broadcastTo S32x8192 lo broadcasts_S32x1_S32x8192)) s (broadcast S32x8192 (Scalar.ofBits .f32 0x00000000#32))))
        (mulf (subf (broadcast S32x1 (Scalar.ofBits .f32 0x444CC000#32))
          (rowSum (sitofp .f32 (extui 32 (cmpf .ogt s (broadcastTo S32x8192 lo broadcasts_S32x1_S32x8192)) natLt_1_32)))) lo))
      (broadcast S32x1 (Named.named (F := Ideal) Cert.KernelIdeal.κ "inv_k" 0x3AA00A01#32)) := rfl
  rw [h, combine_apply, show Scalar.ofBits (F := Ideal) .f32 0x444CC000#32 = kept from Constants.keep]
  rw [rowSum_apply, rowSum_apply, inv_k]
  refine congrArg (· * ((1 / 819 : ℝ) : EReal)) ?_
  unfold Threshold.filled Threshold.sumAbove Threshold.above
  refine congr (congrArg HAdd.hAdd (Finset.sum_congr rfl fun j _ => ?_))
    (congrArg (fun z : EReal => (kept - z) * lo (ix2 r 0)) (Finset.sum_congr rfl fun j _ => ?_))
  · refine Eq.trans ?_ (choose _ _ _)
    show (if BitVec.ofBool (decide (broadcastTo S32x8192 lo broadcasts_S32x1_S32x8192 (ix2 r j) < s (ix2 r j))) = 1#1
      then s (ix2 r j) else Ideal.ofBits .f32 0x00000000#32) = _
    rw [spread_apply, Constants.zero]; rfl
  · refine Eq.trans ?_ (indicator _)
    show ((((BitVec.ofBool (decide (broadcastTo S32x8192 lo broadcasts_S32x1_S32x8192 (ix2 r j) < s (ix2 r j)))).setWidth 32).toInt : ℝ) : EReal) = _
    rw [spread_apply]; rfl

/-- What the last grid point stores, in a row. -/
theorem final_apply (s : Vec Ideal S32x8192 .f32) (r : Fin 32) :
    final s (ix2 r 0) = Threshold.filled (row s r) kept
      ((Threshold.step (row s r) kept)^[30] (0, Finset.univ.fold max ⊥ (row s r))).1 * ((1 / 819 : ℝ) : EReal) := by
  rw [← bounds_apply]
  exact pay8_apply s (bounds s).1 r

end Cert.KernelIdeal.Body
end
-- ==== Proof.Equation.lean ====
module

public import proofs.«01_k».proof.Proof.Final
public import proofs.«01_k».proof.Proof.TopList

@[expose] public section

noncomputable section

/-! # The stored row against the mean of its 819 greatest entries -/

namespace Cert.KernelIdeal.Body

open Idealize.ShloMosaic Idealize.ShloMosaic.TcCoe Idealize.ShloMosaic.ValueIdx
open Cert.KernelIdeal Cert.KernelIdeal.Gen

/-- The sum of the 819 greatest entries of a row. -/
def topSum (s : Vec Ideal S32x8192 .f32) (r : Fin 32) : EReal :=
  ∑ k : Fin 819, TopList.sorted (R := 32) (n := 8192) s r (Fin.castLE (by decide) k)

/-- A row's maximum is the first entry of the sorted row. -/
theorem max_eq (s : Vec Ideal S32x8192 .f32) (r : Fin 32) :
    Finset.univ.fold max ⊥ (row s r) = TopList.sorted (R := 32) (n := 8192) s r ⟨0, by decide⟩ := by
  refine le_antisymm (Finset.fold_max_le _ |>.mpr ⟨bot_le, fun j _ => ?_⟩) (Finset.le_fold_max _ |>.mpr (.inr ⟨_, Finset.mem_univ _, le_refl _⟩))
  obtain ⟨i, rfl⟩ := (TopList.order (R := 32) (n := 8192) s r).surjective j
  exact TopList.antitone_sorted s r (Fin.mk_le_mk.mpr (Nat.zero_le _))

/-- The stored row in terms of the sorted row. -/
theorem final_sorted (s : Vec Ideal S32x8192 .f32) (r : Fin 32) :
    final s (ix2 r 0) = Threshold.filled (TopList.sorted (R := 32) (n := 8192) s r) kept
      ((Threshold.step (TopList.sorted (R := 32) (n := 8192) s r) kept)^[30] (0, TopList.sorted (R := 32) (n := 8192) s r ⟨0, by decide⟩)).1
        * ((1 / 819 : ℝ) : EReal) := by
  have h : TopList.sorted (R := 32) (n := 8192) s r = row s r ∘ TopList.order (R := 32) (n := 8192) s r := rfl
  rw [final_apply, max_eq, h, Threshold.step_perm, Threshold.filled_perm]

/-- The number 819 as a natural number read as a real. -/
theorem kept_eq : kept = (((819 : ℕ) : ℝ) : EReal) := by norm_num [kept]

/-- A row of the result against the mean of the row's 819 greatest entries, for scores that are not negative: never below it, above
    it by at most `2⁻²⁶` of the row's greatest entry, and equal to it when the 819th and 820th greatest entries lie `2⁻³⁰` of the
    greatest apart. -/
theorem final_mean (s : Vec Ideal S32x8192 .f32) (hs : ∀ i, 0 ≤ s i) (r : Fin 32) :
    topSum s r * ((1 / 819 : ℝ) : EReal) ≤ final s (ix2 r 0)
    ∧ final s (ix2 r 0) ≤ topSum s r * ((1 / 819 : ℝ) : EReal)
        + TopList.sorted (R := 32) (n := 8192) s r ⟨0, by decide⟩ * ((1 / 2 ^ 26 : ℝ) : EReal)
    ∧ (TopList.sorted (R := 32) (n := 8192) s r ⟨819, by decide⟩
          + TopList.sorted (R := 32) (n := 8192) s r ⟨0, by decide⟩ * ((1 / 2 ^ 30 : ℝ) : EReal)
          ≤ TopList.sorted (R := 32) (n := 8192) s r ⟨818, by decide⟩
        → final s (ix2 r 0) = topSum s r * ((1 / 819 : ℝ) : EReal)) := by
  rw [final_sorted, kept_eq]
  have hv0 : ∀ i, 0 ≤ TopList.sorted (R := 32) (n := 8192) s r i := fun i => hs _
  generalize hE : Threshold.filled (TopList.sorted (R := 32) (n := 8192) s r) _ _ = E
  obtain ⟨hle, hub, heq⟩ := Threshold.bisect_sum (TopList.sorted (R := 32) (n := 8192) s r) (TopList.antitone_sorted s r) hv0
    819 (by decide) (by decide) (by decide) 30 E (topSum s r) hE.symm rfl
  have hpos : (0 : EReal) ≤ ((1 / 819 : ℝ) : EReal) := by exact_mod_cast (by norm_num : (0 : ℝ) ≤ 1 / 819)
  refine ⟨mul_le_mul_of_nonneg_right hle hpos, ?_, fun h => by rw [heq h]⟩
  rcases hub with ⟨-, hS⟩ | ⟨x, y, μ, hx, hy, hμ, hxy⟩
  · rw [hS, EReal.top_mul_coe_of_pos (by norm_num), EReal.top_add_of_ne_bot]
    · exact le_top
    · refine ne_of_gt (lt_of_lt_of_le EReal.bot_lt_zero (mul_nonneg (hv0 _) ?_))
      exact_mod_cast (by norm_num : (0 : ℝ) ≤ 1 / 2 ^ 26)
  · have hμ0 : (0 : ℝ) ≤ μ := by
      have := hv0 ⟨0, by decide⟩
      rw [hμ] at this
      exact_mod_cast this
    rw [hx, hy, hμ]
    have : x * (1 / 819) ≤ y * (1 / 819) + μ * (1 / 2 ^ 26) := by
      norm_num at hxy ⊢
      linarith
    exact_mod_cast this

end Cert.KernelIdeal.Body
end
-- ==== Proof.Predicates.lean ====
module

public import proofs.«01_k».proof.Pre_separated
public import proofs.«01_k».proof.Post_within_resolution
public import proofs.«01_k».proof.Proof.Reference
public import Idealize.ShloMosaic.Lib.ReduceAll

@[expose] public section

noncomputable section

/-! # What the precondition says, and what the bound on the result asks -/

namespace Cert.Predicates

open Idealize.ShloMosaic Idealize.ShloMosaic.TcCoe Idealize.ShloMosaic.ValueIdx
open Cert.ReferenceIdeal Cert.ReferenceIdeal.Gen Cert.ReferenceIdeal.Read

/-- The shape relations the precondition's operations take. -/
instance separatedFacts : Cert.Pre_separated.Facts where
  bcast_S1_S1x1_1 := by decide
  bcast_S1x1_S32x8192_0_1 := by decide
  sliceFits_S32x8192_S32x820 := by decide
  slices_S32x820_S32x1_0_818 := by decide
  shapeCasts_S32x1_S32 := by decide
  slices_S32x820_S32x1_0_819 := by decide
  slices_S32x820_S32x1_0_0 := by decide
  bcast_S_S32 := by decide
  reducesTo_S32_S_d0 := by decide
  h_S_ := by decide
  dot_S32x128x8192_S128_S32x8192_1_0_02_n_n_n_wf := by decide

/-- The shape relations the bound's operations take. -/
instance resolutionFacts : Cert.Post_within_resolution.Facts where
  bcast_S1_S1x1_1 := by decide
  bcast_S1x1_S32x8192_0_1 := by decide
  sliceFits_S32x8192_S32x819 := by decide
  reducesTo_S32x819_S32_d1 := by decide
  h_S_ := by decide
  bcast_S32_S32x1_0 := by decide
  bcast_S_S32x1 := by decide
  slices_S32x819_S32x1_0_0 := by decide
  dot_S32x128x8192_S128_S32x8192_1_0_02_n_n_n_wf := by decide

/-- A comparison's bit is one exactly when the comparison holds. -/
theorem bit_iff (p : Prop) [Decidable p] : BitVec.ofBool (decide p) = 1#1 ↔ p := by
  by_cases h : p <;> simp [h]

/-- One column of the rows' greatest entries: entry `k` of each row, counted from the greatest. -/
theorem entry_apply {K k : ℕ} (x : FVec Ideal S32x8192 .f32) (hK : K ≤ 8192) (hk : k < K)
    (h : S32x8192.Slices (fun _ => 0) ⟨2, ![32, K]⟩) (h' : Shape.Slices ⟨2, ![32, K]⟩ ![0, k] S32x1) (r : Fin 32) (u : Fin 1) :
    extractStridedSlice S32x1 ![0, k] (Host.topK ⟨2, ![32, K]⟩ 1 (FloatOps.cmpfTotal .gt) x h).1 h' (ix2 r u)
      = TopList.sorted (R := 32) (n := 8192) x r ⟨k, hk.trans_le hK⟩ := by
  rw [extractStridedSlice_apply _ _ _ _ (ix2 r ⟨k, hk⟩) (fun a => by
    have hu : u.val = 0 := by omega
    match a with
    | ⟨0, _⟩ => exact (Nat.zero_add _).symm
    | ⟨1, _⟩ => show k = k + u.val; omega)]
  exact TopList.topK_apply x r hK h ⟨k, hk⟩

/-- The same column as a list of one value per row. -/
theorem flat_apply {K k : ℕ} (x : FVec Ideal S32x8192 .f32) (hK : K ≤ 8192) (hk : k < K)
    (h : S32x8192.Slices (fun _ => 0) ⟨2, ![32, K]⟩) (h' : Shape.Slices ⟨2, ![32, K]⟩ ![0, k] S32x1) (hc : S32x1.ShapeCasts S32)
    (r : Fin 32) :
    shapeCast S32 (extractStridedSlice S32x1 ![0, k] (Host.topK ⟨2, ![32, K]⟩ 1 (FloatOps.cmpfTotal .gt) x h).1 h') hc (ix1 r)
      = TopList.sorted (R := 32) (n := 8192) x r ⟨k, hk.trans_le hK⟩ :=
  (shapeCast_apply _ _ _ (ix2 r 0) (by
    rw [Shape.rowMajor_val_one, Shape.rowMajor_val_two]
    show r.val * 1 + 0 = r.val
    omega)).trans (entry_apply x hK hk h h' r 0)

variable (x0 : FVec Ideal S32x128x8192 .f32) (x1 : FVec Ideal S128 .f32) (x2 : FVec Ideal S1 .f32)

/-- The precondition, row by row: the 819th greatest score exceeds the 820th by at least `2⁻³⁰` of the greatest. -/
theorem separated_apply (h : Cert.Pre_separated.fn (F := Ideal) x0 x1 x2 = fun _ => 1#1) (r : Fin 32) :
    TopList.sorted (R := 32) (n := 8192) (val_main_v4 (F := Ideal) x0 x1 x2) r ⟨819, by decide⟩
      + TopList.sorted (R := 32) (n := 8192) (val_main_v4 (F := Ideal) x0 x1 x2) r ⟨0, by decide⟩ * ((1 / 2 ^ 30 : ℝ) : EReal)
      ≤ TopList.sorted (R := 32) (n := 8192) (val_main_v4 (F := Ideal) x0 x1 x2) r ⟨818, by decide⟩ := by
  have hs : Subsingleton (Cert.Pre_separated.S_).Idx := ⟨fun a b => funext fun i => i.elim0⟩
  have hb := Host.reduce_andi_all _ _ _ _ (fun i => i.elim0) (congrFun h _) (ix1 r : S32.Idx)
  have h' := (bit_iff _).mp hb
  have e := fun (k : ℕ) (hk : k < 820) hs => flat_apply (K := 820) (k := k) (val_main_v4 (F := Ideal) x0 x1 x2) (by decide) hk
    Cert.Pre_separated.Facts.sliceFits_S32x8192_S32x820 hs Cert.Pre_separated.Facts.shapeCasts_S32x1_S32 r
  rw [← e 819 (by decide) Cert.Pre_separated.Facts.slices_S32x820_S32x1_0_819, ← e 818 (by decide) Cert.Pre_separated.Facts.slices_S32x820_S32x1_0_818,
    ← e 0 (by decide) Cert.Pre_separated.Facts.slices_S32x820_S32x1_0_0, ← Constants.gap]
  exact h'

/-- A result between the mean and the mean plus `2⁻²⁶` of the greatest score, row by row, satisfies the bound. -/
theorem resolution_of (out : FVec Ideal S32x1 .f32)
    (h : ∀ r : Fin 32, val_main_v8 (F := Ideal) x0 x1 x2 (ix2 r 0) ≤ out (ix2 r 0)
      ∧ out (ix2 r 0) ≤ val_main_v8 (F := Ideal) x0 x1 x2 (ix2 r 0)
        + TopList.sorted (R := 32) (n := 8192) (val_main_v4 (F := Ideal) x0 x1 x2) r ⟨0, by decide⟩ * ((1 / 2 ^ 26 : ℝ) : EReal)) :
    Cert.Post_within_resolution.fn (F := Ideal) x0 x1 x2 out = fun _ => 1#1 := by
  funext i
  obtain ⟨r, rfl⟩ : ∃ r : Fin 32, i = ix2 r 0 := ⟨i 0, (eq_ix2 i).trans (congrArg (ix2 (i 0)) (Fin.ext (Nat.lt_one_iff.mp (i 1).isLt)))⟩
  obtain ⟨h1, h2⟩ := h r
  rw [← entry_apply (K := 819) (val_main_v4 (F := Ideal) x0 x1 x2) (by decide) (by decide)
    Cert.Post_within_resolution.Facts.sliceFits_S32x8192_S32x819 Cert.Post_within_resolution.Facts.slices_S32x819_S32x1_0_0 r 0,
    ← Constants.slack] at h2
  have b1 := (bit_iff _).mpr h1
  have b2 := (bit_iff _).mpr h2
  have hand : ∀ a b : BitVec 1, a = 1#1 → b = 1#1 → a &&& b = 1#1 := by decide
  exact hand _ _ b1 b2

end Cert.Predicates
end
-- ==== Proof.lean ====
module

public import proofs.«01_k».proof.Defs
public import proofs.«01_k».proof.Proof.KernelRun
public import proofs.«01_k».proof.Proof.Result
public import proofs.«01_k».proof.Proof.Scores
public import proofs.«01_k».proof.Proof.Equation
public import proofs.«01_k».proof.Proof.Reference
public import proofs.«01_k».proof.Proof.Predicates

@[expose] public section

noncomputable section

/-! # The claims, put together

`Result` says what the kernel leaves in its result array, `Scores` that the scores it works on are the reference's, `Equation` how its
search compares with the mean of the greatest scores, `Reference` what the reference computes, `Predicates` what the precondition and
the bound say of a row.
`KernelRun` is the run of the kernel as printed, for its frame. -/

namespace Cert.Proof

open Idealize.ShloMosaic Idealize.ShloMosaic.TcCoe Idealize.ShloMosaic.ValueIdx Idealize.SL.Sem
open Cert.KernelIdeal.Body Cert.ReferenceIdeal.Read

section Rows

open Cert.KernelIdeal

variable (m : (ℓ : Loc nD τ sig) → Buf (Elt Ideal) ℓ) (c : Dev nD)

/-- The scores of device `c`, as the reference computes them from the same arguments. -/
def given : FVec Ideal Cert.ReferenceIdeal.S32x8192 .f32 :=
  val_main_v4 (F := Ideal) (m ((c.tc : Thread nD τ).loc main_arg0)) (m ((c.tc : Thread nD τ).loc main_arg1)) (m ((c.tc : Thread nD τ).loc main_arg2))

/-- The reference's result from the same arguments. -/
def mean : FVec Ideal Cert.ReferenceIdeal.S32x1 .f32 :=
  val_main_v8 (F := Ideal) (m ((c.tc : Thread nD τ).loc main_arg0)) (m ((c.tc : Thread nD τ).loc main_arg1)) (m ((c.tc : Thread nD τ).loc main_arg2))

/-- The reference's row is the sum of the 819 greatest scores times `1/819`. -/
theorem mean_eq (r : Fin 32) : mean m c (ix2 r 0) = topSum (given m c) r * ((1 / 819 : ℝ) : EReal) := mean_apply _ _ _ r 0

/-- The kernel's result against the reference's, for any arguments. -/
theorem rows (r : Fin 32) :
    mean m c (ix2 r 0) ≤ final (scores m c) (ix2 r 0)
    ∧ final (scores m c) (ix2 r 0) ≤ mean m c (ix2 r 0)
        + TopList.sorted (R := 32) (n := 8192) (given m c) r ⟨0, by decide⟩ * ((1 / 2 ^ 26 : ℝ) : EReal)
    ∧ (TopList.sorted (R := 32) (n := 8192) (given m c) r ⟨819, by decide⟩
          + TopList.sorted (R := 32) (n := 8192) (given m c) r ⟨0, by decide⟩ * ((1 / 2 ^ 30 : ℝ) : EReal)
          ≤ TopList.sorted (R := 32) (n := 8192) (given m c) r ⟨818, by decide⟩
        → final (scores m c) (ix2 r 0) = mean m c (ix2 r 0)) := by
  rw [mean_eq, scores_eq]
  exact final_mean (given m c) (scores_nonneg _ _ _) r

/-- Under the precondition the two results are the same array. -/
theorem final_eq_mean [Cert.Pre_separated.Facts] (h : Cert.Pre_KernelIdeal_separated m) : final (scores m c) = mean m c := by
  funext i
  obtain ⟨r, rfl⟩ : ∃ r : Fin 32, i = ix2 r 0 := ⟨i 0, (eq_ix2 i).trans (congrArg (ix2 (i 0)) (Fin.ext (Nat.lt_one_iff.mp (i 1).isLt)))⟩
  exact (rows m c r).2.2 (Predicates.separated_apply _ _ _ (h c) r)

end Rows

/-- The kernel's result lies between the mean and the mean plus `2⁻²⁶` of the row's greatest score. -/
theorem holds : Cert.holds_KernelIdeal_within_resolution := fun m g _ =>
  (θ_run Cert.KernelIdeal.defs _ _).mono (fun r h c => by
    obtain ⟨hv, h0, h1, h2⟩ := h c
    refine ⟨h0, h1, h2, ?_⟩
    rw [hv]
    exact Predicates.resolution_of _ _ _ _ fun r => ⟨(rows m c r).1, (rows m c r).2.1⟩) (Cert.KernelIdeal.Body.result m g)

/-- From the same arguments, rows separated, both programs end with the same result. -/
theorem algebraic : Cert.algebraic_KernelIdeal_ReferenceIdeal_pre_separated := fun m g m' g' hpre hagree =>
  ⟨fun c => mean m c,
    (θ_run Cert.KernelIdeal.defs _ _).mono (fun _ h c => ⟨(h c).1.trans (final_eq_mean m c hpre), (h c).2⟩)
      (Cert.KernelIdeal.Body.result m g),
    (θ_run Cert.ReferenceIdeal.defs _ _).mono (fun _ h c => ⟨(h c).1.trans (by
        obtain ⟨e0, e1, e2⟩ := hagree c
        refine (val_main_v8_eq _ _ _).trans ?_
        rw [e0, e1, e2]
        rfl), (h c).2⟩) (Cert.ReferenceIdeal.Value.run m' g')⟩

/-- All the claims. -/
theorem claim : Cert.Claim :=
  ⟨Cert.Kernel.Gen.facts, Cert.KernelIdeal.Gen.facts, Cert.ReferenceIdeal.Gen.facts, Predicates.separatedFacts, Predicates.resolutionFacts,
    fun m g _ => Cert.Kernel.Body.quiescent m g,
    fun m g _ => Cert.KernelIdeal.Body.quiescent m g,
    fun m g _ => Cert.KernelIdeal.Body.quiescent m g,
    fun m g _ => Cert.ReferenceIdeal.Read.quiescent m g,
    fun m g _ => Cert.ReferenceIdeal.Read.quiescent m g,
    IdealRules.named_const.statement Cert.KernelIdeal.κ "inv_k" .f32 0x3AA00A01#32 ((1 / 819 : ℝ) : EReal) rfl,
    holds, algebraic⟩

end Cert.Proof

end
